-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_tables_and_bias : Cert.Pre_tables_and_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_and_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_experts : Cert.Pre_experts.Facts] (m : (ℓ : Loc Cert.Kernel7.nD Cert.Kernel7.τ Cert.Kernel7.sig) → Buf (Elt Bits) ℓ) : Prop :=
  ∀ c : Dev Cert.Kernel7.nD,
    (Cert.Pre_experts.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5))) = (fun _ => 1#1)

def Pre_Kernel7Ideal [hPre_experts : Cert.Pre_experts.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_experts.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal [hPre_experts : Cert.Pre_experts.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_experts.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_tables_and_bias : Cert.Pre_tables_and_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] [hPre_experts : Cert.Pre_experts.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] [hPre_experts : Cert.Pre_experts.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] [hPre_experts : Cert.Pre_experts.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)) (v4 : (c : Dev Cert.Kernel2Ideal.nD) → Buf (Elt Ideal) ((c.tc : Thread Cert.Kernel2Ideal.nD Cert.Kernel2Ideal.τ).loc Cert.Kernel2Ideal.main_v1_4)) (v5 : (c : Dev Cert.Kernel2Ideal.nD) → Buf (Elt Ideal) ((c.tc : Thread Cert.Kernel2Ideal.nD Cert.Kernel2Ideal.τ).loc Cert.Kernel2Ideal.main_v1_5)) (v6 : (c : Dev Cert.Kernel2Ideal.nD) → Buf (Elt Ideal) ((c.tc : Thread Cert.Kernel2Ideal.nD Cert.Kernel2Ideal.τ).loc Cert.Kernel2Ideal.main_v1_6)) (v7 : (c : Dev Cert.Kernel2Ideal.nD) → Buf (Elt Ideal) ((c.tc : Thread Cert.Kernel2Ideal.nD Cert.Kernel2Ideal.τ).loc Cert.Kernel2Ideal.main_v1_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_v1_4) = v4 c
          ∧ r.2.mem ((c.tc : Thread Cert.Kernel2Ideal.nD Cert.Kernel2Ideal.τ).loc Cert.Kernel2Ideal.main_v1_5) = v5 c
          ∧ r.2.mem ((c.tc : Thread Cert.Kernel2Ideal.nD Cert.Kernel2Ideal.τ).loc Cert.Kernel2Ideal.main_v1_6) = v6 c
          ∧ r.2.mem ((c.tc : Thread Cert.Kernel2Ideal.nD Cert.Kernel2Ideal.τ).loc Cert.Kernel2Ideal.main_v1_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_v2) = v1 c
          ∧ r.2.mem ((c.tc : Thread Cert.Reference2Ideal.nD Cert.Reference2Ideal.τ).loc Cert.Reference2Ideal.main_v3) = v2 c
          ∧ r.2.mem ((c.tc : Thread Cert.Reference2Ideal.nD Cert.Reference2Ideal.τ).loc Cert.Reference2Ideal.main_v4) = v3 c
          ∧ r.2.mem ((c.tc : Thread Cert.Reference2Ideal.nD Cert.Reference2Ideal.τ).loc Cert.Reference2Ideal.main_v5) = v4 c
          ∧ r.2.mem ((c.tc : Thread Cert.Reference2Ideal.nD Cert.Reference2Ideal.τ).loc Cert.Reference2Ideal.main_v6) = v5 c
          ∧ r.2.mem ((c.tc : Thread Cert.Reference2Ideal.nD Cert.Reference2Ideal.τ).loc Cert.Reference2Ideal.main_v7) = v6 c
          ∧ r.2.mem ((c.tc : Thread Cert.Reference2Ideal.nD Cert.Reference2Ideal.τ).loc Cert.Reference2Ideal.main_v8) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)) (v4 : (c : Dev Cert.Kernel4Ideal.nD) → Buf (Elt Ideal) ((c.tc : Thread Cert.Kernel4Ideal.nD Cert.Kernel4Ideal.τ).loc Cert.Kernel4Ideal.main_v1_4)) (v5 : (c : Dev Cert.Kernel4Ideal.nD) → Buf (Elt Ideal) ((c.tc : Thread Cert.Kernel4Ideal.nD Cert.Kernel4Ideal.τ).loc Cert.Kernel4Ideal.main_v1_5)) (v6 : (c : Dev Cert.Kernel4Ideal.nD) → Buf (Elt Ideal) ((c.tc : Thread Cert.Kernel4Ideal.nD Cert.Kernel4Ideal.τ).loc Cert.Kernel4Ideal.main_v1_6)) (v7 : (c : Dev Cert.Kernel4Ideal.nD) → Buf (Elt Ideal) ((c.tc : Thread Cert.Kernel4Ideal.nD Cert.Kernel4Ideal.τ).loc Cert.Kernel4Ideal.main_v1_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_v1_4) = v4 c
          ∧ r.2.mem ((c.tc : Thread Cert.Kernel4Ideal.nD Cert.Kernel4Ideal.τ).loc Cert.Kernel4Ideal.main_v1_5) = v5 c
          ∧ r.2.mem ((c.tc : Thread Cert.Kernel4Ideal.nD Cert.Kernel4Ideal.τ).loc Cert.Kernel4Ideal.main_v1_6) = v6 c
          ∧ r.2.mem ((c.tc : Thread Cert.Kernel4Ideal.nD Cert.Kernel4Ideal.τ).loc Cert.Kernel4Ideal.main_v1_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v2) = v1 c
          ∧ r.2.mem ((c.tc : Thread Cert.Reference4Ideal.nD Cert.Reference4Ideal.τ).loc Cert.Reference4Ideal.main_v3) = v2 c
          ∧ r.2.mem ((c.tc : Thread Cert.Reference4Ideal.nD Cert.Reference4Ideal.τ).loc Cert.Reference4Ideal.main_v4) = v3 c
          ∧ r.2.mem ((c.tc : Thread Cert.Reference4Ideal.nD Cert.Reference4Ideal.τ).loc Cert.Reference4Ideal.main_v5) = v4 c
          ∧ r.2.mem ((c.tc : Thread Cert.Reference4Ideal.nD Cert.Reference4Ideal.τ).loc Cert.Reference4Ideal.main_v6) = v5 c
          ∧ r.2.mem ((c.tc : Thread Cert.Reference4Ideal.nD Cert.Reference4Ideal.τ).loc Cert.Reference4Ideal.main_v7) = v6 c
          ∧ r.2.mem ((c.tc : Thread Cert.Reference4Ideal.nD Cert.Reference4Ideal.τ).loc Cert.Reference4Ideal.main_v8) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v7) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v257) = v0 c
          ∧ r.2.mem ((c.tc : Thread Cert.Reference5Ideal.nD Cert.Reference5Ideal.τ).loc Cert.Reference5Ideal.main_v256) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v257) = v0 c
          ∧ r.2.mem ((c.tc : Thread Cert.Reference6Ideal.nD Cert.Reference6Ideal.τ).loc Cert.Reference6Ideal.main_v256) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] [hPre_experts : Cert.Pre_experts.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_tables : Cert.Pre_tables.Facts) (hPre_tables_and_bias : Cert.Pre_tables_and_bias.Facts) (hPre_experts : Cert.Pre_experts.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal) (hPre_tables_and_bias := hPre_tables_and_bias)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_experts := hPre_experts)
    ∧ quiescent_Kernel7Ideal (hKernel7Ideal := hKernel7Ideal) (hPre_experts := hPre_experts)
    ∧ quiescent_Reference7Ideal (hReference7Ideal := hReference7Ideal) (hPre_experts := hPre_experts)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_experts := hPre_experts)
-- ==== Pre_experts.lean ====
abbrev S576 : Shape := ⟨1, ![576]⟩
abbrev S1 : Shape := ⟨1, ![1]⟩
abbrev S147456x1024 : Shape := ⟨2, ![147456, 1024]⟩
abbrev S2x64x1024x256 : Shape := ⟨4, ![2, 64, 1024, 256]⟩
abbrev S2x64x256x1024 : Shape := ⟨4, ![2, 64, 256, 1024]⟩
abbrev S_ : Shape := ⟨0, ![]⟩

class Facts : Prop where
  bcast_S_S576 : S_.BroadcastsInDim S576 (![] : Fin 0 → Fin S576.rank)
  reducesTo_S576_S_d0 : S576.ReducesTo [0] S_
  h_S_ : 0 < S_.numel

variable [Facts]

def fn {F : FTy → Type} [FloatOps F] (main_arg0 : IVec S576 32) (main_arg1 : IVec S1 32) (main_arg2 : FVec F S147456x1024 .f32) (main_arg3 : FVec F S2x64x1024x256 .f32) (main_arg4 : FVec F S2x64x1024x256 .f32) (main_arg5 : FVec F S2x64x256x1024 .f32) : IVec S_ 1 :=
  let main_c : IVec S_ 32 := constantI S_ 32 0#32
  let main_v0 : IVec S576 32 := broadcastInDim S576 ![] bcast_S_S576 main_c
  let main_v1 : IVec S576 1 := cmpi .sge main_arg0 main_v0
  let main_c_0 : IVec S_ 1 := constantI S_ 1 1#1
  let main_v2 : IVec S_ 1 := (fun x v => Host.reduce IntOp.andi x v reducesTo_S576_S_d0 h_S_) main_v1 main_c_0
  let main_c_1 : IVec S_ 32 := constantI S_ 32 64#32
  let main_v3 : IVec S576 32 := broadcastInDim S576 ![] bcast_S_S576 main_c_1
  let main_v4 : IVec S576 1 := cmpi .slt main_arg0 main_v3
  let main_c_2 : IVec S_ 1 := constantI S_ 1 1#1
  let main_v5 : IVec S_ 1 := (fun x v => Host.reduce IntOp.andi x v reducesTo_S576_S_d0 h_S_) main_v4 main_c_2
  let main_v6 : IVec S_ 1 := andi main_v2 main_v5
  main_v6
-- ==== Pre_tables.lean ====
abbrev S136 : Shape := ⟨1, ![136]⟩
abbrev S16384x512 : Shape := ⟨2, ![16384, 512]⟩
abbrev S3x4x256x256 : Shape := ⟨4, ![3, 4, 256, 256]⟩
abbrev S4x64 : Shape := ⟨2, ![4, 64]⟩
abbrev S128x1 : Shape := ⟨2, ![128, 1]⟩
abbrev S_ : Shape := ⟨0, ![]⟩

class Facts : Prop where
  reducesTo_S136_S_d0 : S136.ReducesTo [0] S_
  h_S_ : 0 < S_.numel

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn {F : FTy → Type} [FloatOps F] (main_arg0 : IVec S136 32) (main_arg1 : IVec S136 32) (main_arg2 : FVec F S16384x512 .f32) (main_arg3 : FVec F S16384x512 .f32) (main_arg4 : FVec F S16384x512 .f32) (main_arg5 : FVec F S3x4x256x256 .f32) (main_arg6 : FVec F S4x64 .f32) (main_arg7 : FVec F S128x1 .f32) : IVec S_ 1 :=
  let main_c : IVec S136 32 := fun i => lit0 (S136.rowMajor i)
  let main_c_0 : IVec S136 32 := fun i => lit1 (S136.rowMajor i)
  let main_v0 : IVec S136 1 := cmpi .eq main_arg0 main_c
  let main_c_1 : IVec S_ 1 := constantI S_ 1 1#1
  let main_v1 : IVec S_ 1 := (fun x v => Host.reduce IntOp.andi x v reducesTo_S136_S_d0 h_S_) main_v0 main_c_1
  let main_v2 : IVec S136 1 := cmpi .eq main_arg1 main_c_0
  let main_c_2 : IVec S_ 1 := constantI S_ 1 1#1
  let main_v3 : IVec S_ 1 := (fun x v => Host.reduce IntOp.andi x v reducesTo_S136_S_d0 h_S_) main_v2 main_c_2
  let main_v4 : IVec S_ 1 := andi main_v1 main_v3
  main_v4
-- ==== Pre_tables_and_bias.lean ====
abbrev S136 : Shape := ⟨1, ![136]⟩
abbrev S16384x512 : Shape := ⟨2, ![16384, 512]⟩
abbrev S3x4x256x256 : Shape := ⟨4, ![3, 4, 256, 256]⟩
abbrev S4x64 : Shape := ⟨2, ![4, 64]⟩
abbrev S128x1 : Shape := ⟨2, ![128, 1]⟩
abbrev S32 : Shape := ⟨1, ![32]⟩
abbrev S1x4x1x256 : Shape := ⟨4, ![1, 4, 1, 256]⟩
abbrev S4x256 : Shape := ⟨2, ![4, 256]⟩
abbrev S256x4 : Shape := ⟨2, ![256, 4]⟩
abbrev S32x1 : Shape := ⟨2, ![32, 1]⟩
abbrev S32x4 : Shape := ⟨2, ![32, 4]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S256x256x1 : Shape := ⟨3, ![256, 256, 1]⟩
abbrev S256x256x4 : Shape := ⟨3, ![256, 256, 4]⟩
abbrev S4x256x256 : Shape := ⟨3, ![4, 256, 256]⟩
abbrev S1x4x256x256 : Shape := ⟨4, ![1, 4, 256, 256]⟩

class Facts : Prop where
  slices_S3x4x256x256_S1x4x1x256_0_0_0_0 : S3x4x256x256.Slices ![0, 0, 0, 0] S1x4x1x256
  shapeCasts_S1x4x1x256_S4x256 : S1x4x1x256.ShapeCasts S4x256
  transposes_S4x256_S256x4_1_0 : S4x256.Transposes [1, 0] S256x4
  bcast_S32_S32x1_0 : S32.BroadcastsInDim S32x1 (![0] : Fin 1 → Fin S32x1.rank)
  bcast_S_S256 : S_.BroadcastsInDim S256 (![] : Fin 0 → Fin S256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  transposes_S256x256x4_S4x256x256_2_0_1 : S256x256x4.Transposes [2, 0, 1] S4x256x256
  transposes_S4x256x256_S4x256x256_0_2_1 : S4x256x256.Transposes [0, 2, 1] S4x256x256
  bcast_S4x256x256_S1x4x256x256_1_2_3 : S4x256x256.BroadcastsInDim S1x4x256x256 (![1, 2, 3] : Fin 3 → Fin S1x4x256x256.rank)
  concatenates_S1x4x256x256_S1x4x256x256_S1x4x256x256_S3x4x256x256_d0 : Shape.Concatenates [S1x4x256x256, S1x4x256x256, S1x4x256x256] S3x4x256x256 0
  reducesTo_S136_S_d0 : S136.ReducesTo [0] S_
  h_S_ : 0 < S_.numel
  reducesTo_S3x4x256x256_S_d0_1_2_3 : S3x4x256x256.ReducesTo [0, 1, 2, 3] S_
  bcast_S_S16384x512 : S_.BroadcastsInDim S16384x512 (![] : Fin 0 → Fin S16384x512.rank)
  reducesTo_S16384x512_S_d0_1 : S16384x512.ReducesTo [0, 1] S_
  bcast_S_S4x64 : S_.BroadcastsInDim S4x64 (![] : Fin 0 → Fin S4x64.rank)
  reducesTo_S4x64_S_d0_1 : S4x64.ReducesTo [0, 1] S_
  gather_S256x4_S32x1_S32x4_1_0_n_n_0_1_14_wf : GatherDims.WF S256x4 S32x1 S32x4 [1] [0] [] [0] [] 1 ![1, 4]
  gather_S32x4_S256x256x1_S256x256x4_2_0_n_n_0_2_14_wf : GatherDims.WF S32x4 S256x256x1 S256x256x4 [2] [0] [] [0] [] 2 ![1, 4]

variable [Facts]

def gather_S256x4_S32x1_S32x4_1_0_n_n_0_1_14 : GatherDims S256x4 S32x1 S32x4 where
  offsetDims := [1]
  collapsedSliceDims := [0]
  operandBatchingDims := []
  startIndicesBatchingDims := []
  startIndexMap := [0]
  indexVectorDim := 1
  sliceSizes := ![1, 4]
  wf := gather_S256x4_S32x1_S32x4_1_0_n_n_0_1_14_wf
def gather_S32x4_S256x256x1_S256x256x4_2_0_n_n_0_2_14 : GatherDims S32x4 S256x256x1 S256x256x4 where
  offsetDims := [2]
  collapsedSliceDims := [0]
  operandBatchingDims := []
  startIndicesBatchingDims := []
  startIndexMap := [0]
  indexVectorDim := 2
  sliceSizes := ![1, 4]
  wf := gather_S32x4_S256x256x1_S256x256x4_2_0_n_n_0_2_14_wf

noncomputable abbrev lit0 : Fin 32 → BitVec 32 := fun
  | 0 => 0#32 | 1 => 1#32 | 2 => 2#32 | 3 => 3#32 | 4 => 4#32 | 5 => 5#32 | 6 => 6#32 | 7 => 7#32
  | 8 => 8#32 | 9 => 9#32 | 10 => 10#32 | 11 => 11#32 | 12 => 12#32 | 13 => 13#32 | 14 => 14#32 | 15 => 15#32
  | 16 => 16#32 | 17 => 19#32 | 18 => 21#32 | 19 => 24#32 | 20 => 27#32 | 21 => 31#32 | 22 => 35#32 | 23 => 40#32
  | 24 => 46#32 | 25 => 52#32 | 26 => 59#32 | 27 => 67#32 | 28 => 77#32 | 29 => 87#32 | 30 => 99#32 | 31 => 113#32
  | _ => 0#32

noncomputable abbrev lit1 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit2 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn_take {F : FTy → Type} [FloatOps F] (arg0 : FVec F S256x4 .f32) (arg1 : IVec S32 32) : FVec F S32x4 .f32 :=
  let v0 : IVec S32x1 32 := broadcastInDim S32x1 ![0] bcast_S32_S32x1_0 arg1
  let v1 : FVec F S32x4 .f32 := (fun x i => Host.gather gather_S256x4_S32x1_S32x4_1_0_n_n_0_1_14 x i) arg0 v0
  v1

def fn_where {F : FTy → Type} [FloatOps F] (arg0 : IVec S256x256 1) (arg1 : IVec S256x256 32) (arg2 : IVec S256x256 32) : IVec S256x256 32 :=
  let v0 : IVec S256x256 32 := select arg0 arg1 arg2
  v0

def fn_part7 {F : FTy → Type} [FloatOps F] (main_arg6 : FVec F S4x64 .f32) (main_v124 : IVec S_ 1) (main_v127 : IVec S16384x512 1) : IVec S_ 1 :=
  let main_c_38 : IVec S_ 1 := constantI S_ 1 1#1
  let main_v128 : IVec S_ 1 := (fun x v => Host.reduce IntOp.andi x v reducesTo_S16384x512_S_d0_1 h_S_) main_v127 main_c_38
  let main_v129 : IVec S_ 1 := andi main_v124 main_v128
  let main_v130 : FVec F S4x64 .f32 := Host.absf main_arg6
  let main_cst_39 : FVec F S_ .f32 := constant S_ .f32 0x7F800000#32
  let main_v131 : FVec F S4x64 .f32 := broadcastInDim S4x64 ![] bcast_S_S4x64 main_cst_39
  let main_v132 : IVec S4x64 1 := cmpf .olt main_v130 main_v131
  let main_c_40 : IVec S_ 1 := constantI S_ 1 1#1
  let main_v133 : IVec S_ 1 := (fun x v => Host.reduce IntOp.andi x v reducesTo_S4x64_S_d0_1 h_S_) main_v132 main_c_40
  let main_v134 : IVec S_ 1 := andi main_v129 main_v133
  main_v134

def fn_part6 {F : FTy → Type} [FloatOps F] (main_arg0 : IVec S136 32) (main_arg1 : IVec S136 32) (main_arg4 : FVec F S16384x512 .f32) (main_arg5 : FVec F S3x4x256x256 .f32) (main_arg6 : FVec F S4x64 .f32) (main_c_0 : IVec S136 32) (main_c_1 : IVec S136 32) (main_v3 : FVec F S32x4 .f32) (main_v40 : FVec F S4x256x256 .f32) (main_v76 : FVec F S4x256x256 .f32) (main_v103 : IVec S256x256 32) (main_v105 : IVec S256x256 1) (main_v107 : IVec S256x256 32) : IVec S_ 1 :=
  let main_v108 : IVec S256x256 32 := select main_v105 main_v107 main_v103
  let main_v109 : IVec S256x256x1 32 := broadcastInDim S256x256x1 ![0, 1] bcast_S256x256_S256x256x1_0_1 main_v108
  let main_v110 : FVec F S256x256x4 .f32 := (fun x i => Host.gather gather_S32x4_S256x256x1_S256x256x4_2_0_n_n_0_2_14 x i) main_v3 main_v109
  let main_v111 : FVec F S4x256x256 .f32 := (transpose S4x256x256 [2, 0, 1] · transposes_S256x256x4_S4x256x256_2_0_1) main_v110
  let main_v112 : FVec F S4x256x256 .f32 := (transpose S4x256x256 [0, 2, 1] · transposes_S4x256x256_S4x256x256_0_2_1) main_v111
  let main_v113 : FVec F S1x4x256x256 .f32 := broadcastInDim S1x4x256x256 ![1, 2, 3] bcast_S4x256x256_S1x4x256x256_1_2_3 main_v40
  let main_v114 : FVec F S1x4x256x256 .f32 := broadcastInDim S1x4x256x256 ![1, 2, 3] bcast_S4x256x256_S1x4x256x256_1_2_3 main_v76
  let main_v115 : FVec F S1x4x256x256 .f32 := broadcastInDim S1x4x256x256 ![1, 2, 3] bcast_S4x256x256_S1x4x256x256_1_2_3 main_v112
  let main_v116 : FVec F S3x4x256x256 .f32 := concatenate S3x4x256x256 0 [⟨S1x4x256x256, main_v113⟩, ⟨S1x4x256x256, main_v114⟩, ⟨S1x4x256x256, main_v115⟩] concatenates_S1x4x256x256_S1x4x256x256_S1x4x256x256_S3x4x256x256_d0
  let main_v117 : IVec S136 1 := cmpi .eq main_arg0 main_c_0
  let main_c_34 : IVec S_ 1 := constantI S_ 1 1#1
  let main_v118 : IVec S_ 1 := (fun x v => Host.reduce IntOp.andi x v reducesTo_S136_S_d0 h_S_) main_v117 main_c_34
  let main_v119 : IVec S136 1 := cmpi .eq main_arg1 main_c_1
  let main_c_35 : IVec S_ 1 := constantI S_ 1 1#1
  let main_v120 : IVec S_ 1 := (fun x v => Host.reduce IntOp.andi x v reducesTo_S136_S_d0 h_S_) main_v119 main_c_35
  let main_v121 : IVec S_ 1 := andi main_v118 main_v120
  let main_v122 : IVec S3x4x256x256 1 := cmpf .oeq main_arg5 main_v116
  let main_c_36 : IVec S_ 1 := constantI S_ 1 1#1
  let main_v123 : IVec S_ 1 := (fun x v => Host.reduce IntOp.andi x v reducesTo_S3x4x256x256_S_d0_1_2_3 h_S_) main_v122 main_c_36
  let main_v124 : IVec S_ 1 := andi main_v121 main_v123
  let main_v125 : FVec F S16384x512 .f32 := Host.absf main_arg4
  let main_cst_37 : FVec F S_ .f32 := constant S_ .f32 0x7F800000#32
  let main_v126 : FVec F S16384x512 .f32 := broadcastInDim S16384x512 ![] bcast_S_S16384x512 main_cst_37
  let main_v127 : IVec S16384x512 1 := cmpf .olt main_v125 main_v126
  fn_part7 (F := F) main_arg6 main_v124 main_v127

def fn_part5 {F : FTy → Type} [FloatOps F] (main_arg0 : IVec S136 32) (main_arg1 : IVec S136 32) (main_arg4 : FVec F S16384x512 .f32) (main_arg5 : FVec F S3x4x256x256 .f32) (main_arg6 : FVec F S4x64 .f32) (main_c_0 : IVec S136 32) (main_c_1 : IVec S136 32) (main_v3 : FVec F S32x4 .f32) (main_v40 : FVec F S4x256x256 .f32) (main_v76 : FVec F S4x256x256 .f32) (main_v85 : IVec S256x256 32) (main_v90 : FVec F S256x256 .f32) : IVec S_ 1 :=
  let main_v91 : FVec F S256x256 .f32 := Host.log main_v90
  let main_cst_27 : FVec F S_ .f32 := constant S_ .f32 0x40051592#32
  let main_v92 : FVec F S256x256 .f32 := broadcastInDim S256x256 ![] bcast_S_S256x256 main_cst_27
  let main_v93 : FVec F S256x256 .f32 := Host.divf main_v91 main_v92
  let main_cst_28 : FVec F S_ .f32 := constant S_ .f32 0x41800000#32
  let main_v94 : FVec F S256x256 .f32 := broadcastInDim S256x256 ![] bcast_S_S256x256 main_cst_28
  let main_v95 : FVec F S256x256 .f32 := mulf main_v93 main_v94
  let main_v96 : IVec S256x256 32 := fptosi 32 main_v95
  let main_c_29 : IVec S_ 32 := constantI S_ 32 16#32
  let main_v97 : IVec S256x256 32 := broadcastInDim S256x256 ![] bcast_S_S256x256 main_c_29
  let main_v98 : IVec S256x256 32 := addi main_v97 main_v96
  let main_c_30 : IVec S_ 32 := constantI S_ 32 31#32
  let main_v99 : IVec S256x256 32 := broadcastInDim S256x256 ![] bcast_S_S256x256 main_c_30
  let main_v100 : IVec S256x256 32 := minsi main_v98 main_v99
  let main_c_31 : IVec S_ 32 := constantI S_ 32 16#32
  let main_v101 : IVec S256x256 32 := broadcastInDim S256x256 ![] bcast_S_S256x256 main_c_31
  let main_v102 : IVec S256x256 1 := cmpi .slt main_v85 main_v101
  let main_v103 : IVec S256x256 32 := fn_where (F := F) main_v102 main_v85 main_v100
  let main_c_32 : IVec S_ 32 := constantI S_ 32 0#32
  let main_v104 : IVec S256x256 32 := broadcastInDim S256x256 ![] bcast_S_S256x256 main_c_32
  let main_v105 : IVec S256x256 1 := cmpi .slt main_v103 main_v104
  let main_c_33 : IVec S_ 32 := constantI S_ 32 32#32
  let main_v106 : IVec S256x256 32 := broadcastInDim S256x256 ![] bcast_S_S256x256 main_c_33
  let main_v107 : IVec S256x256 32 := addi main_v103 main_v106
  fn_part6 (F := F) main_arg0 main_arg1 main_arg4 main_arg5 main_arg6 main_c_0 main_c_1 main_v3 main_v40 main_v76 main_v103 main_v105 main_v107

def fn_part4 {F : FTy → Type} [FloatOps F] (main_arg0 : IVec S136 32) (main_arg1 : IVec S136 32) (main_arg4 : FVec F S16384x512 .f32) (main_arg5 : FVec F S3x4x256x256 .f32) (main_arg6 : FVec F S4x64 .f32) (main_c_0 : IVec S136 32) (main_c_1 : IVec S136 32) (main_v3 : FVec F S32x4 .f32) (main_v4 : IVec S256 32) (main_v40 : FVec F S4x256x256 .f32) (main_v67 : IVec S256x256 32) (main_v69 : IVec S256x256 1) (main_v70 : IVec S256x256 32) : IVec S_ 1 :=
  let main_v71 : IVec S256x256 32 := addi main_v67 main_v70
  let main_v72 : IVec S256x256 32 := select main_v69 main_v71 main_v67
  let main_v73 : IVec S256x256x1 32 := broadcastInDim S256x256x1 ![0, 1] bcast_S256x256_S256x256x1_0_1 main_v72
  let main_v74 : FVec F S256x256x4 .f32 := (fun x i => Host.gather gather_S32x4_S256x256x1_S256x256x4_2_0_n_n_0_2_14 x i) main_v3 main_v73
  let main_v75 : FVec F S4x256x256 .f32 := (transpose S4x256x256 [2, 0, 1] · transposes_S256x256x4_S4x256x256_2_0_1) main_v74
  let main_v76 : FVec F S4x256x256 .f32 := (transpose S4x256x256 [0, 2, 1] · transposes_S4x256x256_S4x256x256_0_2_1) main_v75
  let main_c_23 : IVec S_ 32 := constantI S_ 32 512#32
  let main_v77 : IVec S256 32 := broadcastInDim S256 ![] bcast_S_S256 main_c_23
  let main_v78 : IVec S256 32 := addi main_v77 main_v4
  let main_v79 : IVec S256x1 32 := broadcastInDim S256x1 ![0] bcast_S256_S256x1_0 main_v78
  let main_v80 : IVec S1x256 32 := broadcastInDim S1x256 ![1] bcast_S256_S1x256_1 main_v4
  let main_v81 : IVec S256x256 32 := broadcastInDim S256x256 ![0, 1] bcast_S256x1_S256x256_0_1 main_v79
  let main_v82 : IVec S256x256 32 := broadcastInDim S256x256 ![0, 1] bcast_S1x256_S256x256_0_1 main_v80
  let main_v83 : IVec S256x256 32 := subi main_v81 main_v82
  let main_c_24 : IVec S_ 32 := constantI S_ 32 0#32
  let main_v84 : IVec S256x256 32 := broadcastInDim S256x256 ![] bcast_S_S256x256 main_c_24
  let main_v85 : IVec S256x256 32 := maxsi main_v83 main_v84
  let main_c_25 : IVec S_ 32 := constantI S_ 32 1#32
  let main_v86 : IVec S256x256 32 := broadcastInDim S256x256 ![] bcast_S_S256x256 main_c_25
  let main_v87 : IVec S256x256 32 := maxsi main_v85 main_v86
  let main_v88 : FVec F S256x256 .f32 := sitofp .f32 main_v87
  let main_cst_26 : FVec F S_ .f32 := constant S_ .f32 0x41800000#32
  let main_v89 : FVec F S256x256 .f32 := broadcastInDim S256x256 ![] bcast_S_S256x256 main_cst_26
  let main_v90 : FVec F S256x256 .f32 := Host.divf main_v88 main_v89
  fn_part5 (F := F) main_arg0 main_arg1 main_arg4 main_arg5 main_arg6 main_c_0 main_c_1 main_v3 main_v40 main_v76 main_v85 main_v90

def fn_part3 {F : FTy → Type} [FloatOps F] (main_arg0 : IVec S136 32) (main_arg1 : IVec S136 32) (main_arg4 : FVec F S16384x512 .f32) (main_arg5 : FVec F S3x4x256x256 .f32) (main_arg6 : FVec F S4x64 .f32) (main_c_0 : IVec S136 32) (main_c_1 : IVec S136 32) (main_v3 : FVec F S32x4 .f32) (main_v4 : IVec S256 32) (main_v40 : FVec F S4x256x256 .f32) (main_v49 : IVec S256x256 32) (main_v52 : FVec F S256x256 .f32) (main_v53 : FVec F S256x256 .f32) : IVec S_ 1 :=
  let main_v54 : FVec F S256x256 .f32 := Host.divf main_v52 main_v53
  let main_v55 : FVec F S256x256 .f32 := Host.log main_v54
  let main_cst_16 : FVec F S_ .f32 := constant S_ .f32 0x40051592#32
  let main_v56 : FVec F S256x256 .f32 := broadcastInDim S256x256 ![] bcast_S_S256x256 main_cst_16
  let main_v57 : FVec F S256x256 .f32 := Host.divf main_v55 main_v56
  let main_cst_17 : FVec F S_ .f32 := constant S_ .f32 0x41800000#32
  let main_v58 : FVec F S256x256 .f32 := broadcastInDim S256x256 ![] bcast_S_S256x256 main_cst_17
  let main_v59 : FVec F S256x256 .f32 := mulf main_v57 main_v58
  let main_v60 : IVec S256x256 32 := fptosi 32 main_v59
  let main_c_18 : IVec S_ 32 := constantI S_ 32 16#32
  let main_v61 : IVec S256x256 32 := broadcastInDim S256x256 ![] bcast_S_S256x256 main_c_18
  let main_v62 : IVec S256x256 32 := addi main_v61 main_v60
  let main_c_19 : IVec S_ 32 := constantI S_ 32 31#32
  let main_v63 : IVec S256x256 32 := broadcastInDim S256x256 ![] bcast_S_S256x256 main_c_19
  let main_v64 : IVec S256x256 32 := minsi main_v62 main_v63
  let main_c_20 : IVec S_ 32 := constantI S_ 32 16#32
  let main_v65 : IVec S256x256 32 := broadcastInDim S256x256 ![] bcast_S_S256x256 main_c_20
  let main_v66 : IVec S256x256 1 := cmpi .slt main_v49 main_v65
  let main_v67 : IVec S256x256 32 := fn_where (F := F) main_v66 main_v49 main_v64
  let main_c_21 : IVec S_ 32 := constantI S_ 32 0#32
  let main_v68 : IVec S256x256 32 := broadcastInDim S256x256 ![] bcast_S_S256x256 main_c_21
  let main_v69 : IVec S256x256 1 := cmpi .slt main_v67 main_v68
  let main_c_22 : IVec S_ 32 := constantI S_ 32 32#32
  let main_v70 : IVec S256x256 32 := broadcastInDim S256x256 ![] bcast_S_S256x256 main_c_22
  fn_part4 (F := F) main_arg0 main_arg1 main_arg4 main_arg5 main_arg6 main_c_0 main_c_1 main_v3 main_v4 main_v40 main_v67 main_v69 main_v70

def fn_part2 {F : FTy → Type} [FloatOps F] (main_arg0 : IVec S136 32) (main_arg1 : IVec S136 32) (main_arg4 : FVec F S16384x512 .f32) (main_arg5 : FVec F S3x4x256x256 .f32) (main_arg6 : FVec F S4x64 .f32) (main_c_0 : IVec S136 32) (main_c_1 : IVec S136 32) (main_v3 : FVec F S32x4 .f32) (main_v4 : IVec S256 32) (main_v31 : IVec S256x256 32) (main_v33 : IVec S256x256 1) (main_c_11 : IVec S_ 32) : IVec S_ 1 :=
  let main_v34 : IVec S256x256 32 := broadcastInDim S256x256 ![] bcast_S_S256x256 main_c_11
  let main_v35 : IVec S256x256 32 := addi main_v31 main_v34
  let main_v36 : IVec S256x256 32 := select main_v33 main_v35 main_v31
  let main_v37 : IVec S256x256x1 32 := broadcastInDim S256x256x1 ![0, 1] bcast_S256x256_S256x256x1_0_1 main_v36
  let main_v38 : FVec F S256x256x4 .f32 := (fun x i => Host.gather gather_S32x4_S256x256x1_S256x256x4_2_0_n_n_0_2_14 x i) main_v3 main_v37
  let main_v39 : FVec F S4x256x256 .f32 := (transpose S4x256x256 [2, 0, 1] · transposes_S256x256x4_S4x256x256_2_0_1) main_v38
  let main_v40 : FVec F S4x256x256 .f32 := (transpose S4x256x256 [0, 2, 1] · transposes_S4x256x256_S4x256x256_0_2_1) main_v39
  let main_c_12 : IVec S_ 32 := constantI S_ 32 256#32
  let main_v41 : IVec S256 32 := broadcastInDim S256 ![] bcast_S_S256 main_c_12
  let main_v42 : IVec S256 32 := addi main_v41 main_v4
  let main_v43 : IVec S256x1 32 := broadcastInDim S256x1 ![0] bcast_S256_S256x1_0 main_v42
  let main_v44 : IVec S1x256 32 := broadcastInDim S1x256 ![1] bcast_S256_S1x256_1 main_v4
  let main_v45 : IVec S256x256 32 := broadcastInDim S256x256 ![0, 1] bcast_S256x1_S256x256_0_1 main_v43
  let main_v46 : IVec S256x256 32 := broadcastInDim S256x256 ![0, 1] bcast_S1x256_S256x256_0_1 main_v44
  let main_v47 : IVec S256x256 32 := subi main_v45 main_v46
  let main_c_13 : IVec S_ 32 := constantI S_ 32 0#32
  let main_v48 : IVec S256x256 32 := broadcastInDim S256x256 ![] bcast_S_S256x256 main_c_13
  let main_v49 : IVec S256x256 32 := maxsi main_v47 main_v48
  let main_c_14 : IVec S_ 32 := constantI S_ 32 1#32
  let main_v50 : IVec S256x256 32 := broadcastInDim S256x256 ![] bcast_S_S256x256 main_c_14
  let main_v51 : IVec S256x256 32 := maxsi main_v49 main_v50
  let main_v52 : FVec F S256x256 .f32 := sitofp .f32 main_v51
  let main_cst_15 : FVec F S_ .f32 := constant S_ .f32 0x41800000#32
  let main_v53 : FVec F S256x256 .f32 := broadcastInDim S256x256 ![] bcast_S_S256x256 main_cst_15
  fn_part3 (F := F) main_arg0 main_arg1 main_arg4 main_arg5 main_arg6 main_c_0 main_c_1 main_v3 main_v4 main_v40 main_v49 main_v52 main_v53

def fn_part1 {F : FTy → Type} [FloatOps F] (main_arg0 : IVec S136 32) (main_arg1 : IVec S136 32) (main_arg4 : FVec F S16384x512 .f32) (main_arg5 : FVec F S3x4x256x256 .f32) (main_arg6 : FVec F S4x64 .f32) (main_c_0 : IVec S136 32) (main_c_1 : IVec S136 32) (main_v3 : FVec F S32x4 .f32) (main_v4 : IVec S256 32) (main_v13 : IVec S256x256 32) (main_v16 : FVec F S256x256 .f32) (main_cst : FVec F S_ .f32) : IVec S_ 1 :=
  let main_v17 : FVec F S256x256 .f32 := broadcastInDim S256x256 ![] bcast_S_S256x256 main_cst
  let main_v18 : FVec F S256x256 .f32 := Host.divf main_v16 main_v17
  let main_v19 : FVec F S256x256 .f32 := Host.log main_v18
  let main_cst_5 : FVec F S_ .f32 := constant S_ .f32 0x40051592#32
  let main_v20 : FVec F S256x256 .f32 := broadcastInDim S256x256 ![] bcast_S_S256x256 main_cst_5
  let main_v21 : FVec F S256x256 .f32 := Host.divf main_v19 main_v20
  let main_cst_6 : FVec F S_ .f32 := constant S_ .f32 0x41800000#32
  let main_v22 : FVec F S256x256 .f32 := broadcastInDim S256x256 ![] bcast_S_S256x256 main_cst_6
  let main_v23 : FVec F S256x256 .f32 := mulf main_v21 main_v22
  let main_v24 : IVec S256x256 32 := fptosi 32 main_v23
  let main_c_7 : IVec S_ 32 := constantI S_ 32 16#32
  let main_v25 : IVec S256x256 32 := broadcastInDim S256x256 ![] bcast_S_S256x256 main_c_7
  let main_v26 : IVec S256x256 32 := addi main_v25 main_v24
  let main_c_8 : IVec S_ 32 := constantI S_ 32 31#32
  let main_v27 : IVec S256x256 32 := broadcastInDim S256x256 ![] bcast_S_S256x256 main_c_8
  let main_v28 : IVec S256x256 32 := minsi main_v26 main_v27
  let main_c_9 : IVec S_ 32 := constantI S_ 32 16#32
  let main_v29 : IVec S256x256 32 := broadcastInDim S256x256 ![] bcast_S_S256x256 main_c_9
  let main_v30 : IVec S256x256 1 := cmpi .slt main_v13 main_v29
  let main_v31 : IVec S256x256 32 := fn_where (F := F) main_v30 main_v13 main_v28
  let main_c_10 : IVec S_ 32 := constantI S_ 32 0#32
  let main_v32 : IVec S256x256 32 := broadcastInDim S256x256 ![] bcast_S_S256x256 main_c_10
  let main_v33 : IVec S256x256 1 := cmpi .slt main_v31 main_v32
  let main_c_11 : IVec S_ 32 := constantI S_ 32 32#32
  fn_part2 (F := F) main_arg0 main_arg1 main_arg4 main_arg5 main_arg6 main_c_0 main_c_1 main_v3 main_v4 main_v31 main_v33 main_c_11

def fn {F : FTy → Type} [FloatOps F] (main_arg0 : IVec S136 32) (main_arg1 : IVec S136 32) (main_arg2 : FVec F S16384x512 .f32) (main_arg3 : FVec F S16384x512 .f32) (main_arg4 : FVec F S16384x512 .f32) (main_arg5 : FVec F S3x4x256x256 .f32) (main_arg6 : FVec F S4x64 .f32) (main_arg7 : FVec F S128x1 .f32) : IVec S_ 1 :=
  let main_c : IVec S32 32 := fun i => lit0 (S32.rowMajor i)
  let main_c_0 : IVec S136 32 := fun i => lit1 (S136.rowMajor i)
  let main_c_1 : IVec S136 32 := fun i => lit2 (S136.rowMajor i)
  let main_v0 : FVec F S1x4x1x256 .f32 := (extractStridedSlice S1x4x1x256 ![0, 0, 0, 0] · slices_S3x4x256x256_S1x4x1x256_0_0_0_0) main_arg5
  let main_v1 : FVec F S4x256 .f32 := shapeCast S4x256 main_v0 shapeCasts_S1x4x1x256_S4x256
  let main_v2 : FVec F S256x4 .f32 := (transpose S256x4 [1, 0] · transposes_S4x256_S256x4_1_0) main_v1
  let main_v3 : FVec F S32x4 .f32 := fn_take (F := F) main_v2 main_c
  let main_v4 : IVec S256 32 := iotaInDim S256 32 0
  let main_c_2 : IVec S_ 32 := constantI S_ 32 0#32
  let main_v5 : IVec S256 32 := broadcastInDim S256 ![] bcast_S_S256 main_c_2
  let main_v6 : IVec S256 32 := addi main_v5 main_v4
  let main_v7 : IVec S256x1 32 := broadcastInDim S256x1 ![0] bcast_S256_S256x1_0 main_v6
  let main_v8 : IVec S1x256 32 := broadcastInDim S1x256 ![1] bcast_S256_S1x256_1 main_v4
  let main_v9 : IVec S256x256 32 := broadcastInDim S256x256 ![0, 1] bcast_S256x1_S256x256_0_1 main_v7
  let main_v10 : IVec S256x256 32 := broadcastInDim S256x256 ![0, 1] bcast_S1x256_S256x256_0_1 main_v8
  let main_v11 : IVec S256x256 32 := subi main_v9 main_v10
  let main_c_3 : IVec S_ 32 := constantI S_ 32 0#32
  let main_v12 : IVec S256x256 32 := broadcastInDim S256x256 ![] bcast_S_S256x256 main_c_3
  let main_v13 : IVec S256x256 32 := maxsi main_v11 main_v12
  let main_c_4 : IVec S_ 32 := constantI S_ 32 1#32
  let main_v14 : IVec S256x256 32 := broadcastInDim S256x256 ![] bcast_S_S256x256 main_c_4
  let main_v15 : IVec S256x256 32 := maxsi main_v13 main_v14
  let main_v16 : FVec F S256x256 .f32 := sitofp .f32 main_v15
  let main_cst : FVec F S_ .f32 := constant S_ .f32 0x41800000#32
  fn_part1 (F := F) main_arg0 main_arg1 main_arg4 main_arg5 main_arg6 main_c_0 main_c_1 main_v3 main_v4 main_v13 main_v16 main_cst
-- ==== Kernel.lean ====
abbrev S136 : Shape := ⟨1, ![136]⟩
abbrev S16384x512 : Shape := ⟨2, ![16384, 512]⟩
abbrev S3x4x256x256 : Shape := ⟨4, ![3, 4, 256, 256]⟩
abbrev S4x64 : Shape := ⟨2, ![4, 64]⟩
abbrev S128x1 : Shape := ⟨2, ![128, 1]⟩
abbrev S256x512 : Shape := ⟨2, ![256, 512]⟩
abbrev S1 : Shape := ⟨1, ![1]⟩
abbrev S8x1x256 : Shape := ⟨3, ![8, 1, 256]⟩
abbrev S8x128x256 : Shape := ⟨3, ![8, 128, 256]⟩
abbrev S8x256x256 : Shape := ⟨3, ![8, 256, 256]⟩
abbrev S256x256 : Shape := ⟨2, ![256, 256]⟩
abbrev S1x1x256x256 : Shape := ⟨4, ![1, 1, 256, 256]⟩
abbrev S256x64 : Shape := ⟨2, ![256, 64]⟩
abbrev S1x256x256 : Shape := ⟨3, ![1, 256, 256]⟩
abbrev S1x1x256 : Shape := ⟨3, ![1, 1, 256]⟩
abbrev S1x256 : Shape := ⟨2, ![1, 256]⟩
abbrev S256 : Shape := ⟨1, ![256]⟩
abbrev S256x128 : Shape := ⟨2, ![256, 128]⟩
abbrev S128x256 : Shape := ⟨2, ![128, 256]⟩
abbrev S1x128x256 : Shape := ⟨3, ![1, 128, 256]⟩
abbrev S1x64 : Shape := ⟨2, ![1, 64]⟩
abbrev S1x1 : Shape := ⟨2, ![1, 1]⟩

abbrev nBuf : Space → Nat
  | .hbm => 7
  | .vmem => 16
  | .smem => 2
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S3x4x256x256, .f32⟩
  | .hbm, ⟨4, _⟩ => ⟨S4x64, .f32⟩
  | .hbm, ⟨5, _⟩ => ⟨S128x1, .f32⟩
  | .hbm, ⟨6, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S3x4x256x256, .f32⟩
  | .local _ .vmem, ⟨7, _⟩ => ⟨S4x64, .f32⟩
  | .local _ .vmem, ⟨8, _⟩ => ⟨S128x1, .f32⟩
  | .local _ .vmem, ⟨9, _⟩ => ⟨S256x512, .f32⟩
  | .local _ .vmem, ⟨10, _⟩ => ⟨S256x512, .f32⟩
  | .local _ .vmem, ⟨11, _⟩ => ⟨S8x1x256, .f32⟩
  | .local _ .vmem, ⟨12, _⟩ => ⟨S8x1x256, .f32⟩
  | .local _ .vmem, ⟨13, _⟩ => ⟨S8x128x256, .f32⟩
  | .local _ .vmem, ⟨14, _⟩ => ⟨S8x256x256, .f32⟩
  | .local _ .vmem, ⟨15, _⟩ => ⟨S8x256x256, .bf16⟩
  | .local _ .smem, ⟨0, _⟩ => ⟨S136, .i32⟩
  | .local _ .smem, ⟨1, _⟩ => ⟨S136, .i32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 136], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_off2 (v1 : BitVec 32) (v3 : BitVec 32) : Fin 4 → Nat :=
  let v16 : BitVec 32 := Scalar.subi v1 v3
  let c2_i32 : BitVec 32 := 2#32
  let v17 : BitVec 32 := Scalar.minsi v16 c2_i32
  let v21 : Index := Scalar.indexCast v17
  let c0 : Index := 0#32
  let c0_4 : Index := 0#32
  let c0_5 : Index := 0#32
  ![v21.toNat, 0, 0, 0]
def k0_cond2 (v1 : BitVec 32) (v3 : BitVec 32) : BitVec 1 :=
  let v7 : BitVec 1 := Scalar.cmpi .eq v3 v1
  let v8 : BitVec 32 := Scalar.extui v7
  let c0_i32_1 : BitVec 32 := 0#32
  let v9 : BitVec 1 := Scalar.cmpi .ne v8 c0_i32_1
  v9

def k0_off3 (v1 : BitVec 32) (v3 : BitVec 32) : Fin 4 → Nat :=
  let v16 : BitVec 32 := Scalar.subi v1 v3
  let c2_i32 : BitVec 32 := 2#32
  let v17 : BitVec 32 := Scalar.minsi v16 c2_i32
  let v50 : Index := Scalar.indexCast v17
  let c1_23 : Index := 1#32
  let c0_24 : Index := 0#32
  let c0_25 : Index := 0#32
  ![v50.toNat, 1, 0, 0]
def k0_off4 (v1 : BitVec 32) (v3 : BitVec 32) : Fin 4 → Nat :=
  let v16 : BitVec 32 := Scalar.subi v1 v3
  let c2_i32 : BitVec 32 := 2#32
  let v17 : BitVec 32 := Scalar.minsi v16 c2_i32
  let v79 : Index := Scalar.indexCast v17
  let c2_42 : Index := 2#32
  let c0_43 : Index := 0#32
  let c0_44 : Index := 0#32
  ![v79.toNat, 2, 0, 0]
def k0_off5 (v1 : BitVec 32) (v3 : BitVec 32) : Fin 4 → Nat :=
  let v16 : BitVec 32 := Scalar.subi v1 v3
  let c2_i32 : BitVec 32 := 2#32
  let v17 : BitVec 32 := Scalar.minsi v16 c2_i32
  let v108 : Index := Scalar.indexCast v17
  let c3_61 : Index := 3#32
  let c0_62 : Index := 0#32
  let c0_63 : Index := 0#32
  ![v108.toNat, 3, 0, 0]
def k0_off6 (v1 : BitVec 32) (v3 : BitVec 32) : Fin 4 → Nat :=
  let v16 : BitVec 32 := Scalar.subi v1 v3
  let c2_i32 : BitVec 32 := 2#32
  let v17 : BitVec 32 := Scalar.minsi v16 c2_i32
  let v18 : Index := Scalar.indexCast v17
  let c0 : Index := 0#32
  let c0_4 : Index := 0#32
  let c0_5 : Index := 0#32
  ![v18.toNat, 0, 0, 0]
def k0_cond3 (v1 : BitVec 32) (v3 : BitVec 32) : BitVec 1 :=
  let v10 : BitVec 1 := Scalar.cmpi .slt v3 v1
  let v11 : BitVec 32 := Scalar.extui v10
  let c0_i32_2 : BitVec 32 := 0#32
  let v12 : BitVec 1 := Scalar.cmpi .ne v11 c0_i32_2
  v12

def k0_off7 (v1 : BitVec 32) (v3 : BitVec 32) : Fin 4 → Nat :=
  let v16 : BitVec 32 := Scalar.subi v1 v3
  let c2_i32 : BitVec 32 := 2#32
  let v17 : BitVec 32 := Scalar.minsi v16 c2_i32
  let v43 : Index := Scalar.indexCast v17
  let c1_21 : Index := 1#32
  let c0_22 : Index := 0#32
  let c0_23 : Index := 0#32
  ![v43.toNat, 1, 0, 0]
def k0_off8 (v1 : BitVec 32) (v3 : BitVec 32) : Fin 4 → Nat :=
  let v16 : BitVec 32 := Scalar.subi v1 v3
  let c2_i32 : BitVec 32 := 2#32
  let v17 : BitVec 32 := Scalar.minsi v16 c2_i32
  let v68 : Index := Scalar.indexCast v17
  let c2_38 : Index := 2#32
  let c0_39 : Index := 0#32
  let c0_40 : Index := 0#32
  ![v68.toNat, 2, 0, 0]
def k0_off9 (v1 : BitVec 32) (v3 : BitVec 32) : Fin 4 → Nat :=
  let v16 : BitVec 32 := Scalar.subi v1 v3
  let c2_i32 : BitVec 32 := 2#32
  let v17 : BitVec 32 := Scalar.minsi v16 c2_i32
  let v93 : Index := Scalar.indexCast v17
  let c3_55 : Index := 3#32
  let c0_56 : Index := 0#32
  let c0_57 : Index := 0#32
  ![v93.toNat, 3, 0, 0]

def k0_chk1 (v1 : BitVec 32) (v3 : BitVec 32) : Prop :=
  (∀ (k0_h2 : k0_cond2 v1 v3 = 1#1), ∀ a, (k0_off2 v1 v3) a + S1x1x256x256.size a ≤ S3x4x256x256.size a) ∧
  (∀ (k0_h2 : k0_cond2 v1 v3 = 1#1), ∀ a, (k0_off3 v1 v3) a + S1x1x256x256.size a ≤ S3x4x256x256.size a) ∧
  (∀ (k0_h2 : k0_cond2 v1 v3 = 1#1), ∀ a, (k0_off4 v1 v3) a + S1x1x256x256.size a ≤ S3x4x256x256.size a) ∧
  (∀ (k0_h2 : k0_cond2 v1 v3 = 1#1), ∀ a, (k0_off5 v1 v3) a + S1x1x256x256.size a ≤ S3x4x256x256.size a) ∧
  (∀ (k0_h3 : k0_cond3 v1 v3 = 1#1), ∀ a, (k0_off6 v1 v3) a + S1x1x256x256.size a ≤ S3x4x256x256.size a) ∧
  (∀ (k0_h3 : k0_cond3 v1 v3 = 1#1), ∀ a, (k0_off7 v1 v3) a + S1x1x256x256.size a ≤ S3x4x256x256.size a) ∧
  (∀ (k0_h3 : k0_cond3 v1 v3 = 1#1), ∀ a, (k0_off8 v1 v3) a + S1x1x256x256.size a ≤ S3x4x256x256.size a) ∧
  (∀ (k0_h3 : k0_cond3 v1 v3 = 1#1), ∀ a, (k0_off9 v1 v3) a + S1x1x256x256.size a ≤ S3x4x256x256.size a)
theorem k0_off2_inb : ∀ (v1 : BitVec 32) (v3 : BitVec 32) (k0_hw1 : k0_chk1 v1 v3), ∀ (k0_h2 : k0_cond2 v1 v3 = 1#1), ∀ a, (k0_off2 v1 v3) a + S1x1x256x256.size a ≤ S3x4x256x256.size a := fun v1 v3 k0_hw1 k0_h2 => k0_hw1.1 k0_h2
theorem k0_off3_inb : ∀ (v1 : BitVec 32) (v3 : BitVec 32) (k0_hw1 : k0_chk1 v1 v3), ∀ (k0_h2 : k0_cond2 v1 v3 = 1#1), ∀ a, (k0_off3 v1 v3) a + S1x1x256x256.size a ≤ S3x4x256x256.size a := fun v1 v3 k0_hw1 k0_h2 => k0_hw1.2.1 k0_h2
theorem k0_off4_inb : ∀ (v1 : BitVec 32) (v3 : BitVec 32) (k0_hw1 : k0_chk1 v1 v3), ∀ (k0_h2 : k0_cond2 v1 v3 = 1#1), ∀ a, (k0_off4 v1 v3) a + S1x1x256x256.size a ≤ S3x4x256x256.size a := fun v1 v3 k0_hw1 k0_h2 => k0_hw1.2.2.1 k0_h2
theorem k0_off5_inb : ∀ (v1 : BitVec 32) (v3 : BitVec 32) (k0_hw1 : k0_chk1 v1 v3), ∀ (k0_h2 : k0_cond2 v1 v3 = 1#1), ∀ a, (k0_off5 v1 v3) a + S1x1x256x256.size a ≤ S3x4x256x256.size a := fun v1 v3 k0_hw1 k0_h2 => k0_hw1.2.2.2.1 k0_h2
theorem k0_off6_inb : ∀ (v1 : BitVec 32) (v3 : BitVec 32) (k0_hw1 : k0_chk1 v1 v3), ∀ (k0_h3 : k0_cond3 v1 v3 = 1#1), ∀ a, (k0_off6 v1 v3) a + S1x1x256x256.size a ≤ S3x4x256x256.size a := fun v1 v3 k0_hw1 k0_h3 => k0_hw1.2.2.2.2.1 k0_h3
theorem k0_off7_inb : ∀ (v1 : BitVec 32) (v3 : BitVec 32) (k0_hw1 : k0_chk1 v1 v3), ∀ (k0_h3 : k0_cond3 v1 v3 = 1#1), ∀ a, (k0_off7 v1 v3) a + S1x1x256x256.size a ≤ S3x4x256x256.size a := fun v1 v3 k0_hw1 k0_h3 => k0_hw1.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v1 v3) a + S1x1x256x256.size a ≤ S3x4x256x256.size a := fun v1 v3 k0_hw1 k0_h3 => k0_hw1.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v1 v3) a + S1x1x256x256.size a ≤ S3x4x256x256.size a := fun v1 v3 k0_hw1 k0_h3 => k0_hw1.2.2.2.2.2.2.2 k0_h3

def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x4x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S136 : Shape := ⟨1, ![136]⟩
abbrev S16384x512 : Shape := ⟨2, ![16384, 512]⟩
abbrev S3x4x256x256 : Shape := ⟨4, ![3, 4, 256, 256]⟩
abbrev S4x64 : Shape := ⟨2, ![4, 64]⟩
abbrev S128x1 : Shape := ⟨2, ![128, 1]⟩
abbrev S32 : Shape := ⟨1, ![32]⟩
abbrev S4x4096x4x2x64 : Shape := ⟨5, ![4, 4096, 4, 2, 64]⟩
abbrev S4x4096x4x128 : Shape := ⟨4, ![4, 4096, 4, 128]⟩
abbrev S4096 : Shape := ⟨1, ![4096]⟩
abbrev S1x64 : Shape := ⟨2, ![1, 64]⟩
abbrev S64 : Shape := ⟨1, ![64]⟩
abbrev S_ : Shape := ⟨0, ![]⟩
abbrev S1x4x1x256 : Shape := ⟨4, ![1, 4, 1, 256]⟩
abbrev S4x256 : Shape := ⟨2, ![4, 256]⟩
abbrev S256x4 : Shape := ⟨2, ![256, 4]⟩
abbrev S32x1 : Shape := ⟨2, ![32, 1]⟩
abbrev S32x4 : Shape := ⟨2, ![32, 4]⟩
abbrev S4x4x2x4096x4096 : Shape := ⟨5, ![4, 4, 2, 4096, 4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S4096x4096x4 : Shape := ⟨3, ![4096, 4096, 4]⟩
abbrev S4x4096x4096 : Shape := ⟨3, ![4, 4096, 4096]⟩
abbrev S1x4x1x4096x4096 : Shape := ⟨5, ![1, 4, 1, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S128 : Shape := ⟨1, ![128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 141
  | .vmem => 0
  | .smem => 0
  | _ => 0

abbrev hbmTy0_0 (i : Nat) : BufTy := match i % 128 with
  | 0 => ⟨S136, .i32⟩
  | 1 => ⟨S136, .i32⟩
  | 2 => ⟨S16384x512, .f32⟩
  | 3 => ⟨S16384x512, .f32⟩
  | 4 => ⟨S16384x512, .f32⟩
  | 5 => ⟨S3x4x256x256, .f32⟩
  | 6 => ⟨S4x64, .f32⟩
  | 7 => ⟨S128x1, .f32⟩
  | 8 => ⟨S32, .i32⟩
  | 9 => ⟨S4x4096x4x2x64, .f32⟩
  | 10 => ⟨S4x4096x4x2x64, .f32⟩
  | 11 => ⟨S4x4096x4x128, .f32⟩
  | 12 => ⟨S4096, .i32⟩
  | 13 => ⟨S1x64, .f32⟩
  | 14 => ⟨S64, .f32⟩
  | 15 => ⟨S1x64, .f32⟩
  | 16 => ⟨S64, .f32⟩
  | 17 => ⟨S1x64, .f32⟩
  | 18 => ⟨S64, .f32⟩
  | 19 => ⟨S1x64, .f32⟩
  | 20 => ⟨S64, .f32⟩
  | 21 => ⟨S64, .f32⟩
  | 22 => ⟨S_, .f32⟩
  | 23 => ⟨S_, .f32⟩
  | 24 => ⟨S_, .f32⟩
  | 25 => ⟨S64, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S1x4x1x256, .f32⟩
  | 33 => ⟨S4x256, .f32⟩
  | 34 => ⟨S256x4, .f32⟩
  | 35 => ⟨S32x1, .i32⟩
  | 36 => ⟨S32x4, .f32⟩
  | 37 => ⟨S4x4x2x4096x4096, .f32⟩
  | 38 => ⟨S_, .f32⟩
  | 39 => ⟨S4x4x2x4096x4096, .f32⟩
  | 40 => ⟨S4x4x2x4096x4096, .f32⟩
  | 41 => ⟨S4096x1, .i32⟩
  | 42 => ⟨S1x4096, .i32⟩
  | 43 => ⟨S4096x4096, .i32⟩
  | 44 => ⟨S4096x4096, .i32⟩
  | 45 => ⟨S4096x4096, .i32⟩
  | 46 => ⟨S_, .i32⟩
  | 47 => ⟨S4096x4096, .i32⟩
  | 48 => ⟨S4096x4096, .i32⟩
  | 49 => ⟨S_, .i32⟩
  | 50 => ⟨S4096x4096, .i32⟩
  | 51 => ⟨S4096x4096, .i32⟩
  | 52 => ⟨S4096x4096, .f32⟩
  | 53 => ⟨S_, .f32⟩
  | 54 => ⟨S4096x4096, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S_, .f32⟩
  | 61 => ⟨S4096x4096, .f32⟩
  | 62 => ⟨S4096x4096, .f32⟩
  | 63 => ⟨S4096x4096, .i32⟩
  | 64 => ⟨S_, .i32⟩
  | 65 => ⟨S4096x4096, .i32⟩
  | 66 => ⟨S4096x4096, .i32⟩
  | 67 => ⟨S_, .i32⟩
  | 68 => ⟨S4096x4096, .i32⟩
  | 69 => ⟨S4096x4096, .i32⟩
  | 70 => ⟨S_, .i32⟩
  | 71 => ⟨S4096x4096, .i32⟩
  | 72 => ⟨S4096x4096, .i1⟩
  | 73 => ⟨S4096x4096, .i32⟩
  | 74 => ⟨S_, .i32⟩
  | 75 => ⟨S4096x4096, .i32⟩
  | 76 => ⟨S4096x4096, .i1⟩
  | 77 => ⟨S_, .i32⟩
  | 78 => ⟨S4096x4096, .i32⟩
  | 79 => ⟨S4096x4096, .i32⟩
  | 80 => ⟨S4096x4096, .i32⟩
  | 81 => ⟨S4096x4096x1, .i32⟩
  | 82 => ⟨S4096x4096x4, .f32⟩
  | 83 => ⟨S4x4096x4096, .f32⟩
  | 84 => ⟨S1x4x1x4096x4096, .f32⟩
  | 85 => ⟨S4x4x2x4096x4096, .f32⟩
  | 86 => ⟨S4x4x2x4096x4096, .f32⟩
  | 87 => ⟨S1x4096, .i32⟩
  | 88 => ⟨S4096x1, .i32⟩
  | 89 => ⟨S4096x4096, .i32⟩
  | 90 => ⟨S4096x4096, .i32⟩
  | 91 => ⟨S4096x4096, .i1⟩
  | 92 => ⟨S_, .f32⟩
  | 93 => ⟨S_, .f32⟩
  | 94 => ⟨S4x4x2x4096x4096, .i1⟩
  | 95 => ⟨S4x4x2x4096x4096, .f32⟩
  | 96 => ⟨S4x4x2x4096x4096, .f32⟩
  | 97 => ⟨S_, .f32⟩
  | 98 => ⟨S4x4x2x4096, .f32⟩
  | 99 => ⟨S_, .f32⟩
  | 100 => ⟨S4x4x2x4096, .f32⟩
  | 101 => ⟨S4x4x2x4096, .f32⟩
  | 102 => ⟨S4x4x2x4096x1, .f32⟩
  | 103 => ⟨S4x4x2x4096x4096, .f32⟩
  | 104 => ⟨S4x4x2x4096x4096, .f32⟩
  | 105 => ⟨S4x4x2x4096x4096, .f32⟩
  | 106 => ⟨S_, .f32⟩
  | 107 => ⟨S4x4x2x4096, .f32⟩
  | 108 => ⟨S4x4x2x4096x1, .f32⟩
  | 109 => ⟨S4x4x2x4096x4096, .f32⟩
  | 110 => ⟨S4x4x2x4096x4096, .f32⟩
  | 111 => ⟨S4x4x1x4096x4096, .f32⟩
  | 112 => ⟨S4x4x4096x4096, .f32⟩
  | 113 => ⟨S4x4x1x4096x4096, .f32⟩
  | 114 => ⟨S4x4x4096x4096, .f32⟩
  | 115 => ⟨S4x4x4096x4096, .f32⟩
  | 116 => ⟨S4x4x4096x4096, .f32⟩
  | 117 => ⟨S4x4x4096x4096, .f32⟩
  | 118 => ⟨S4x4x128x4096, .f32⟩
  | 119 => ⟨S4x4096x4x128, .f32⟩
  | 120 => ⟨S128, .f32⟩
  | 121 => ⟨S4x4096x4x128, .f32⟩
  | 122 => ⟨S_, .f32⟩
  | 123 => ⟨S4x4096x4, .f32⟩
  | 124 => ⟨S4x4096x4x1, .f32⟩
  | 125 => ⟨S_, .f32⟩
  | 126 => ⟨S4x4096x4x1, .f32⟩
  | 127 => ⟨S4x4096x4x1, .f32⟩
  | _ => ⟨S136, .i32⟩

abbrev hbmTy0_1 (i : Nat) : BufTy := match i % 128 with
  | 0 => ⟨S_, .f32⟩
  | 1 => ⟨S4x4096x4x1, .f32⟩
  | 2 => ⟨S4x4096x4x1, .f32⟩
  | 3 => ⟨S4x4096x4x1, .f32⟩
  | 4 => ⟨S4x4096x4x128, .f32⟩
  | 5 => ⟨S4x4096x4x128, .f32⟩
  | 6 => ⟨S1x1x1x128, .f32⟩
  | 7 => ⟨S4x4096x4x128, .f32⟩
  | 8 => ⟨S4x4096x4x128, .f32⟩
  | 9 => ⟨S_, .f32⟩
  | 10 => ⟨S4x4096x4x128, .f32⟩
  | 11 => ⟨S4x4096x4x128, .f32⟩
  | 12 => ⟨S16384x512, .f32⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_17 : Ref sig .tc := ⟨.hbm, 122, rfl⟩
abbrev main_v91 : Ref sig .tc := ⟨.hbm, 123, rfl⟩
abbrev main_v92 : Ref sig .tc := ⟨.hbm, 124, rfl⟩
abbrev main_cst_18 : Ref sig .tc := ⟨.hbm, 125, rfl⟩
abbrev main_v93 : Ref sig .tc := ⟨.hbm, 126, rfl⟩
abbrev main_v94 : Ref sig .tc := ⟨.hbm, 127, rfl⟩
abbrev main_cst_19 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_20 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]
-- ==== Kernel2.lean ====
abbrev S16384x1024 : Shape := ⟨2, ![16384, 1024]⟩
abbrev S1024x5888 : Shape := ⟨2, ![1024, 5888]⟩
abbrev S16384x256 : Shape := ⟨2, ![16384, 256]⟩
abbrev S16384x512 : Shape := ⟨2, ![16384, 512]⟩
abbrev S16384x3072 : Shape := ⟨2, ![16384, 3072]⟩
abbrev S256x1024 : Shape := ⟨2, ![256, 1024]⟩
abbrev S256x256 : Shape := ⟨2, ![256, 256]⟩
abbrev S256x512 : Shape := ⟨2, ![256, 512]⟩
abbrev S256x3072 : Shape := ⟨2, ![256, 3072]⟩
abbrev S1024x256 : Shape := ⟨2, ![1024, 256]⟩
abbrev S1024x512 : Shape := ⟨2, ![1024, 512]⟩

abbrev nBuf : Space → Nat
  | .hbm => 11
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024x5888, .f32⟩
  | .hbm, ⟨2, _⟩ => ⟨S1024x5888, .bf16⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x3072, .f32⟩
  | .local _ .vmem, ⟨0, _⟩ => ⟨S256x1024, .f32⟩
  | .local _ .vmem, ⟨1, _⟩ => ⟨S256x1024, .f32⟩
  | .local _ .vmem, ⟨2, _⟩ => ⟨S1024x5888, .bf16⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x3072, .f32⟩
  | .local _ .vmem, ⟨18, _⟩ => ⟨S256x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev main_v1_6 : Ref sig .tc := ⟨.hbm, 9, rfl⟩
abbrev main_v1_7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5888 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S1024x5888 : Shape := ⟨2, ![1024, 5888]⟩
abbrev S16384x5888 : Shape := ⟨2, ![16384, 5888]⟩
abbrev S16384x256 : Shape := ⟨2, ![16384, 256]⟩
abbrev S16384x512 : Shape := ⟨2, ![16384, 512]⟩
abbrev S16384x3072 : Shape := ⟨2, ![16384, 3072]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5888, .f32⟩
  | .hbm, ⟨2, _⟩ => ⟨S16384x5888, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel3.lean ====
abbrev S16384x1024 : Shape := ⟨2, ![16384, 1024]⟩
abbrev S16384x256 : Shape := ⟨2, ![16384, 256]⟩
abbrev S16384x512 : Shape := ⟨2, ![16384, 512]⟩
abbrev S16384x3072 : Shape := ⟨2, ![16384, 3072]⟩
abbrev S256x1024 : Shape := ⟨2, ![256, 1024]⟩
abbrev S512x1024 : Shape := ⟨2, ![512, 1024]⟩
abbrev S1024x1024 : Shape := ⟨2, ![1024, 1024]⟩
abbrev S1x1024 : Shape := ⟨2, ![1, 1024]⟩
abbrev S256x256 : Shape := ⟨2, ![256, 256]⟩
abbrev S256x512 : Shape := ⟨2, ![256, 512]⟩
abbrev S256x3072 : Shape := ⟨2, ![256, 3072]⟩
abbrev S256 : Shape := ⟨1, ![256]⟩
abbrev S256x1 : Shape := ⟨2, ![256, 1]⟩

abbrev nBuf : Space → Nat
  | .hbm => 16
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x512, .f32⟩
  | .hbm, ⟨3, _⟩ => ⟨S16384x256, .f32⟩
  | .hbm, ⟨4, _⟩ => ⟨S16384x3072, .f32⟩
  | .hbm, ⟨5, _⟩ => ⟨S256x1024, .f32⟩
  | .hbm, ⟨6, _⟩ => ⟨S512x1024, .f32⟩
  | .hbm, ⟨7, _⟩ => ⟨S256x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S256x1024, .bf16⟩
  | .hbm, ⟨12, _⟩ => ⟨S512x1024, .bf16⟩
  | .hbm, ⟨13, _⟩ => ⟨S256x1024, .bf16⟩
  | .hbm, ⟨14, _⟩ => ⟨S1024x1024, .bf16⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x256, .f32⟩
  | .local _ .vmem, ⟨7, _⟩ => ⟨S256x256, .f32⟩
  | .local _ .vmem, ⟨8, _⟩ => ⟨S256x3072, .f32⟩
  | .local _ .vmem, ⟨9, _⟩ => ⟨S256x3072, .f32⟩
  | .local _ .vmem, ⟨10, _⟩ => ⟨S256x1024, .bf16⟩
  | .local _ .vmem, ⟨11, _⟩ => ⟨S512x1024, .bf16⟩
  | .local _ .vmem, ⟨12, _⟩ => ⟨S256x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S16384x256 : Shape := ⟨2, ![16384, 256]⟩
abbrev S16384x512 : Shape := ⟨2, ![16384, 512]⟩
abbrev S16384x3072 : Shape := ⟨2, ![16384, 3072]⟩
abbrev S256x1024 : Shape := ⟨2, ![256, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x512, .f32⟩
  | .hbm, ⟨3, _⟩ => ⟨S16384x256, .f32⟩
  | .hbm, ⟨4, _⟩ => ⟨S16384x3072, .f32⟩
  | .hbm, ⟨5, _⟩ => ⟨S256x1024, .f32⟩
  | .hbm, ⟨6, _⟩ => ⟨S512x1024, .f32⟩
  | .hbm, ⟨7, _⟩ => ⟨S256x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S16384x3072, .f32⟩
  | .hbm, ⟨12, _⟩ => ⟨S16384x3072, .f32⟩
  | .hbm, ⟨13, _⟩ => ⟨S_, .f32⟩
  | .hbm, ⟨14, _⟩ => ⟨S16384x3072, .f32⟩
  | .hbm, ⟨15, _⟩ => ⟨S16384x3072, .f32⟩
  | .hbm, ⟨16, _⟩ => ⟨S_, .f32⟩
  | .hbm, ⟨17, _⟩ => ⟨S16384x3072, .f32⟩
  | .hbm, ⟨18, _⟩ => ⟨S16384x3072, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S1x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel4.lean ====
abbrev S32x1024 : Shape := ⟨2, ![32, 1024]⟩
abbrev S1024x5888 : Shape := ⟨2, ![1024, 5888]⟩
abbrev S32x256 : Shape := ⟨2, ![32, 256]⟩
abbrev S32x512 : Shape := ⟨2, ![32, 512]⟩
abbrev S32x3072 : Shape := ⟨2, ![32, 3072]⟩
abbrev S1024x256 : Shape := ⟨2, ![1024, 256]⟩
abbrev S1024x512 : Shape := ⟨2, ![1024, 512]⟩

abbrev nBuf : Space → Nat
  | .hbm => 11
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S1024x5888, .f32⟩
  | .hbm, ⟨2, _⟩ => ⟨S1024x5888, .bf16⟩
  | .hbm, ⟨3, _⟩ => ⟨S32x256, .f32⟩
  | .hbm, ⟨4, _⟩ => ⟨S32x256, .f32⟩
  | .hbm, ⟨5, _⟩ => ⟨S32x256, .f32⟩
  | .hbm, ⟨6, _⟩ => ⟨S32x512, .f32⟩
  | .hbm, ⟨7, _⟩ => ⟨S32x512, .f32⟩
  | .hbm, ⟨8, _⟩ => ⟨S32x512, .f32⟩
  | .hbm, ⟨9, _⟩ => ⟨S32x512, .f32⟩
  | .hbm, ⟨10, _⟩ => ⟨S32x3072, .f32⟩
  | .local _ .vmem, ⟨0, _⟩ => ⟨S32x1024, .f32⟩
  | .local _ .vmem, ⟨1, _⟩ => ⟨S1024x5888, .bf16⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x3072, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev main_v1_6 : Ref sig .tc := ⟨.hbm, 9, rfl⟩
abbrev main_v1_7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x5888 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference4Ideal.lean ====
abbrev S32x1024 : Shape := ⟨2, ![32, 1024]⟩
abbrev S1024x5888 : Shape := ⟨2, ![1024, 5888]⟩
abbrev S32x5888 : Shape := ⟨2, ![32, 5888]⟩
abbrev S32x256 : Shape := ⟨2, ![32, 256]⟩
abbrev S32x512 : Shape := ⟨2, ![32, 512]⟩
abbrev S32x3072 : Shape := ⟨2, ![32, 3072]⟩

abbrev nBuf : Space → Nat
  | .hbm => 11
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x5888, .f32⟩
  | .hbm, ⟨2, _⟩ => ⟨S32x5888, .f32⟩
  | .hbm, ⟨3, _⟩ => ⟨S32x256, .f32⟩
  | .hbm, ⟨4, _⟩ => ⟨S32x256, .f32⟩
  | .hbm, ⟨5, _⟩ => ⟨S32x256, .f32⟩
  | .hbm, ⟨6, _⟩ => ⟨S32x512, .f32⟩
  | .hbm, ⟨7, _⟩ => ⟨S32x512, .f32⟩
  | .hbm, ⟨8, _⟩ => ⟨S32x512, .f32⟩
  | .hbm, ⟨9, _⟩ => ⟨S32x512, .f32⟩
  | .hbm, ⟨10, _⟩ => ⟨S32x3072, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel5.lean ====
abbrev S32x512 : Shape := ⟨2, ![32, 512]⟩
abbrev S32x30x256 : Shape := ⟨3, ![32, 30, 256]⟩
abbrev S31x256 : Shape := ⟨2, ![31, 256]⟩
abbrev S256 : Shape := ⟨1, ![256]⟩
abbrev S30x32x256 : Shape := ⟨3, ![30, 32, 256]⟩
abbrev S1x256 : Shape := ⟨2, ![1, 256]⟩
abbrev S32x256 : Shape := ⟨2, ![32, 256]⟩
abbrev S1x32x256 : Shape := ⟨3, ![1, 32, 256]⟩
abbrev S32 : Shape := ⟨1, ![32]⟩
abbrev S32x1 : Shape := ⟨2, ![32, 1]⟩
abbrev S32x29x256 : Shape := ⟨3, ![32, 29, 256]⟩
abbrev S32x1x256 : Shape := ⟨3, ![32, 1, 256]⟩

abbrev nBuf : Space → Nat
  | .hbm => 15
  | .vmem => 8
  | .smem => 0
  | _ => 0

abbrev bufTy : (tb : Table) → Fin (tcTables nBuf tb) → BufTy
  | .hbm, ⟨0, _⟩ => ⟨S32x512, .f32⟩
  | .hbm, ⟨1, _⟩ => ⟨S32x30x256, .f32⟩
  | .hbm, ⟨2, _⟩ => ⟨S31x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S30x32x256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S32x256, .f32⟩
  | .hbm, ⟨11, _⟩ => ⟨S32x256, .f32⟩
  | .hbm, ⟨12, _⟩ => ⟨S32x29x256, .f32⟩
  | .hbm, ⟨13, _⟩ => ⟨S32x1x256, .f32⟩
  | .hbm, ⟨14, _⟩ => ⟨S32x30x256, .f32⟩
  | .local _ .vmem, ⟨0, _⟩ => ⟨S32x512, .f32⟩
  | .local _ .vmem, ⟨1, _⟩ => ⟨S30x32x256, .f32⟩
  | .local _ .vmem, ⟨2, _⟩ => ⟨S31x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S32x256, .f32⟩
  | .local _ .vmem, ⟨7, _⟩ => ⟨S32x256, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S30x32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference5Ideal.lean ====
abbrev S32x512 : Shape := ⟨2, ![32, 512]⟩
abbrev S32x30x256 : Shape := ⟨3, ![32, 30, 256]⟩
abbrev S31x256 : Shape := ⟨2, ![31, 256]⟩
abbrev S256 : Shape := ⟨1, ![256]⟩
abbrev S32x256 : Shape := ⟨2, ![32, 256]⟩
abbrev S32x1x256 : Shape := ⟨3, ![32, 1, 256]⟩
abbrev S_ : Shape := ⟨0, ![]⟩
abbrev S32x31x256 : Shape := ⟨3, ![32, 31, 256]⟩
abbrev S1x256 : Shape := ⟨2, ![1, 256]⟩
abbrev S1x1x256 : Shape := ⟨3, ![1, 1, 256]⟩
abbrev S32x1 : Shape := ⟨2, ![32, 1]⟩
abbrev S32x1x1 : Shape := ⟨3, ![32, 1, 1]⟩

abbrev nBuf : Space → Nat
  | .hbm => 279
  | .vmem => 0
  | .smem => 0
  | _ => 0

abbrev hbmTy0_0 (i : Nat) : BufTy := match i % 128 with
  | 0 => ⟨S32x512, .f32⟩
  | 1 => ⟨S32x30x256, .f32⟩
  | 2 => ⟨S31x256, .f32⟩
  | 3 => ⟨S256, .f32⟩
  | 4 => ⟨S256, .f32⟩
  | 5 => ⟨S256, .f32⟩
  | 6 => ⟨S32x256, .f32⟩
  | 7 => ⟨S32x1x256, .f32⟩
  | 8 => ⟨S32x256, .f32⟩
  | 9 => ⟨S32x1x256, .f32⟩
  | 10 => ⟨S32x1x256, .f32⟩
  | 11 => ⟨S32x1x256, .f32⟩
  | 12 => ⟨S_, .f32⟩
  | 13 => ⟨S32x1x256, .f32⟩
  | 14 => ⟨S32x1x256, .f32⟩
  | 15 => ⟨S_, .f32⟩
  | 16 => ⟨S32x1x256, .f32⟩
  | 17 => ⟨S32x1x256, .f32⟩
  | 18 => ⟨S32x1x256, .f32⟩
  | 19 => ⟨S32x31x256, .f32⟩
  | 20 => ⟨S32x1x256, .f32⟩
  | 21 => ⟨S1x256, .f32⟩
  | 22 => ⟨S256, .f32⟩
  | 23 => ⟨S1x1x256, .f32⟩
  | 24 => ⟨S32x1x256, .f32⟩
  | 25 => ⟨S32x1x256, .f32⟩
  | 26 => ⟨S32x1x256, .f32⟩
  | 27 => ⟨S1x256, .f32⟩
  | 28 => ⟨S256, .f32⟩
  | 29 => ⟨S1x1x256, .f32⟩
  | 30 => ⟨S32x1x256, .f32⟩
  | 31 => ⟨S32x1x256, .f32⟩
  | 32 => ⟨S32x1x256, .f32⟩
  | 33 => ⟨S32x1x256, .f32⟩
  | 34 => ⟨S1x256, .f32⟩
  | 35 => ⟨S256, .f32⟩
  | 36 => ⟨S1x1x256, .f32⟩
  | 37 => ⟨S32x1x256, .f32⟩
  | 38 => ⟨S32x1x256, .f32⟩
  | 39 => ⟨S32x1x256, .f32⟩
  | 40 => ⟨S32x1x256, .f32⟩
  | 41 => ⟨S1x256, .f32⟩
  | 42 => ⟨S256, .f32⟩
  | 43 => ⟨S1x1x256, .f32⟩
  | 44 => ⟨S32x1x256, .f32⟩
  | 45 => ⟨S32x1x256, .f32⟩
  | 46 => ⟨S32x1x256, .f32⟩
  | 47 => ⟨S32x1x256, .f32⟩
  | 48 => ⟨S1x256, .f32⟩
  | 49 => ⟨S256, .f32⟩
  | 50 => ⟨S1x1x256, .f32⟩
  | 51 => ⟨S32x1x256, .f32⟩
  | 52 => ⟨S32x1x256, .f32⟩
  | 53 => ⟨S32x1x256, .f32⟩
  | 54 => ⟨S32x1x256, .f32⟩
  | 55 => ⟨S1x256, .f32⟩
  | 56 => ⟨S256, .f32⟩
  | 57 => ⟨S1x1x256, .f32⟩
  | 58 => ⟨S32x1x256, .f32⟩
  | 59 => ⟨S32x1x256, .f32⟩
  | 60 => ⟨S32x1x256, .f32⟩
  | 61 => ⟨S32x1x256, .f32⟩
  | 62 => ⟨S1x256, .f32⟩
  | 63 => ⟨S256, .f32⟩
  | 64 => ⟨S1x1x256, .f32⟩
  | 65 => ⟨S32x1x256, .f32⟩
  | 66 => ⟨S32x1x256, .f32⟩
  | 67 => ⟨S32x1x256, .f32⟩
  | 68 => ⟨S32x1x256, .f32⟩
  | 69 => ⟨S1x256, .f32⟩
  | 70 => ⟨S256, .f32⟩
  | 71 => ⟨S1x1x256, .f32⟩
  | 72 => ⟨S32x1x256, .f32⟩
  | 73 => ⟨S32x1x256, .f32⟩
  | 74 => ⟨S32x1x256, .f32⟩
  | 75 => ⟨S32x1x256, .f32⟩
  | 76 => ⟨S1x256, .f32⟩
  | 77 => ⟨S256, .f32⟩
  | 78 => ⟨S1x1x256, .f32⟩
  | 79 => ⟨S32x1x256, .f32⟩
  | 80 => ⟨S32x1x256, .f32⟩
  | 81 => ⟨S32x1x256, .f32⟩
  | 82 => ⟨S32x1x256, .f32⟩
  | 83 => ⟨S1x256, .f32⟩
  | 84 => ⟨S256, .f32⟩
  | 85 => ⟨S1x1x256, .f32⟩
  | 86 => ⟨S32x1x256, .f32⟩
  | 87 => ⟨S32x1x256, .f32⟩
  | 88 => ⟨S32x1x256, .f32⟩
  | 89 => ⟨S32x1x256, .f32⟩
  | 90 => ⟨S1x256, .f32⟩
  | 91 => ⟨S256, .f32⟩
  | 92 => ⟨S1x1x256, .f32⟩
  | 93 => ⟨S32x1x256, .f32⟩
  | 94 => ⟨S32x1x256, .f32⟩
  | 95 => ⟨S32x1x256, .f32⟩
  | 96 => ⟨S32x1x256, .f32⟩
  | 97 => ⟨S1x256, .f32⟩
  | 98 => ⟨S256, .f32⟩
  | 99 => ⟨S1x1x256, .f32⟩
  | 100 => ⟨S32x1x256, .f32⟩
  | 101 => ⟨S32x1x256, .f32⟩
  | 102 => ⟨S32x1x256, .f32⟩
  | 103 => ⟨S32x1x256, .f32⟩
  | 104 => ⟨S1x256, .f32⟩
  | 105 => ⟨S256, .f32⟩
  | 106 => ⟨S1x1x256, .f32⟩
  | 107 => ⟨S32x1x256, .f32⟩
  | 108 => ⟨S32x1x256, .f32⟩
  | 109 => ⟨S32x1x256, .f32⟩
  | 110 => ⟨S32x1x256, .f32⟩
  | 111 => ⟨S1x256, .f32⟩
  | 112 => ⟨S256, .f32⟩
  | 113 => ⟨S1x1x256, .f32⟩
  | 114 => ⟨S32x1x256, .f32⟩
  | 115 => ⟨S32x1x256, .f32⟩
  | 116 => ⟨S32x1x256, .f32⟩
  | 117 => ⟨S32x1x256, .f32⟩
  | 118 => ⟨S1x256, .f32⟩
  | 119 => ⟨S256, .f32⟩
  | 120 => ⟨S1x1x256, .f32⟩
  | 121 => ⟨S32x1x256, .f32⟩
  | 122 => ⟨S32x1x256, .f32⟩
  | 123 => ⟨S32x1x256, .f32⟩
  | 124 => ⟨S32x1x256, .f32⟩
  | 125 => ⟨S1x256, .f32⟩
  | 126 => ⟨S256, .f32⟩
  | 127 => ⟨S1x1x256, .f32⟩
  | _ => ⟨S32x512, .f32⟩

abbrev hbmTy0_1 (i : Nat) : BufTy := match i % 128 with
  | 0 => ⟨S32x1x256, .f32⟩
  | 1 => ⟨S32x1x256, .f32⟩
  | 2 => ⟨S32x1x256, .f32⟩
  | 3 => ⟨S32x1x256, .f32⟩
  | 4 => ⟨S1x256, .f32⟩
  | 5 => ⟨S256, .f32⟩
  | 6 => ⟨S1x1x256, .f32⟩
  | 7 => ⟨S32x1x256, .f32⟩
  | 8 => ⟨S32x1x256, .f32⟩
  | 9 => ⟨S32x1x256, .f32⟩
  | 10 => ⟨S32x1x256, .f32⟩
  | 11 => ⟨S1x256, .f32⟩
  | 12 => ⟨S256, .f32⟩
  | 13 => ⟨S1x1x256, .f32⟩
  | 14 => ⟨S32x1x256, .f32⟩
  | 15 => ⟨S32x1x256, .f32⟩
  | 16 => ⟨S32x1x256, .f32⟩
  | 17 => ⟨S32x1x256, .f32⟩
  | 18 => ⟨S1x256, .f32⟩
  | 19 => ⟨S256, .f32⟩
  | 20 => ⟨S1x1x256, .f32⟩
  | 21 => ⟨S32x1x256, .f32⟩
  | 22 => ⟨S32x1x256, .f32⟩
  | 23 => ⟨S32x1x256, .f32⟩
  | 24 => ⟨S32x1x256, .f32⟩
  | 25 => ⟨S1x256, .f32⟩
  | 26 => ⟨S256, .f32⟩
  | 27 => ⟨S1x1x256, .f32⟩
  | 28 => ⟨S32x1x256, .f32⟩
  | 29 => ⟨S32x1x256, .f32⟩
  | 30 => ⟨S32x1x256, .f32⟩
  | 31 => ⟨S32x1x256, .f32⟩
  | 32 => ⟨S1x256, .f32⟩
  | 33 => ⟨S256, .f32⟩
  | 34 => ⟨S1x1x256, .f32⟩
  | 35 => ⟨S32x1x256, .f32⟩
  | 36 => ⟨S32x1x256, .f32⟩
  | 37 => ⟨S32x1x256, .f32⟩
  | 38 => ⟨S32x1x256, .f32⟩
  | 39 => ⟨S1x256, .f32⟩
  | 40 => ⟨S256, .f32⟩
  | 41 => ⟨S1x1x256, .f32⟩
  | 42 => ⟨S32x1x256, .f32⟩
  | 43 => ⟨S32x1x256, .f32⟩
  | 44 => ⟨S32x1x256, .f32⟩
  | 45 => ⟨S32x1x256, .f32⟩
  | 46 => ⟨S1x256, .f32⟩
  | 47 => ⟨S256, .f32⟩
  | 48 => ⟨S1x1x256, .f32⟩
  | 49 => ⟨S32x1x256, .f32⟩
  | 50 => ⟨S32x1x256, .f32⟩
  | 51 => ⟨S32x1x256, .f32⟩
  | 52 => ⟨S32x1x256, .f32⟩
  | 53 => ⟨S1x256, .f32⟩
  | 54 => ⟨S256, .f32⟩
  | 55 => ⟨S1x1x256, .f32⟩
  | 56 => ⟨S32x1x256, .f32⟩
  | 57 => ⟨S32x1x256, .f32⟩
  | 58 => ⟨S32x1x256, .f32⟩
  | 59 => ⟨S32x1x256, .f32⟩
  | 60 => ⟨S1x256, .f32⟩
  | 61 => ⟨S256, .f32⟩
  | 62 => ⟨S1x1x256, .f32⟩
  | 63 => ⟨S32x1x256, .f32⟩
  | 64 => ⟨S32x1x256, .f32⟩
  | 65 => ⟨S32x1x256, .f32⟩
  | 66 => ⟨S32x1x256, .f32⟩
  | 67 => ⟨S1x256, .f32⟩
  | 68 => ⟨S256, .f32⟩
  | 69 => ⟨S1x1x256, .f32⟩
  | 70 => ⟨S32x1x256, .f32⟩
  | 71 => ⟨S32x1x256, .f32⟩
  | 72 => ⟨S32x1x256, .f32⟩
  | 73 => ⟨S32x1x256, .f32⟩
  | 74 => ⟨S1x256, .f32⟩
  | 75 => ⟨S256, .f32⟩
  | 76 => ⟨S1x1x256, .f32⟩
  | 77 => ⟨S32x1x256, .f32⟩
  | 78 => ⟨S32x1x256, .f32⟩
  | 79 => ⟨S32x1x256, .f32⟩
  | 80 => ⟨S32x1x256, .f32⟩
  | 81 => ⟨S1x256, .f32⟩
  | 82 => ⟨S256, .f32⟩
  | 83 => ⟨S1x1x256, .f32⟩
  | 84 => ⟨S32x1x256, .f32⟩
  | 85 => ⟨S32x1x256, .f32⟩
  | 86 => ⟨S32x1x256, .f32⟩
  | 87 => ⟨S32x1x256, .f32⟩
  | 88 => ⟨S1x256, .f32⟩
  | 89 => ⟨S256, .f32⟩
  | 90 => ⟨S1x1x256, .f32⟩
  | 91 => ⟨S32x1x256, .f32⟩
  | 92 => ⟨S32x1x256, .f32⟩
  | 93 => ⟨S32x1x256, .f32⟩
  | 94 => ⟨S32x1x256, .f32⟩
  | 95 => ⟨S1x256, .f32⟩
  | 96 => ⟨S256, .f32⟩
  | 97 => ⟨S1x1x256, .f32⟩
  | 98 => ⟨S32x1x256, .f32⟩
  | 99 => ⟨S32x1x256, .f32⟩
  | 100 => ⟨S32x1x256, .f32⟩
  | 101 => ⟨S32x1x256, .f32⟩
  | 102 => ⟨S1x256, .f32⟩
  | 103 => ⟨S256, .f32⟩
  | 104 => ⟨S1x1x256, .f32⟩
  | 105 => ⟨S32x1x256, .f32⟩
  | 106 => ⟨S32x1x256, .f32⟩
  | 107 => ⟨S32x1x256, .f32⟩
  | 108 => ⟨S1x1x256, .f32⟩
  | 109 => ⟨S32x1x256, .f32⟩
  | 110 => ⟨S32x1x256, .f32⟩
  | 111 => ⟨S_, .f32⟩
  | 112 => ⟨S32x1, .f32⟩
  | 113 => ⟨S32x1x1, .f32⟩
  | 114 => ⟨S_, .f32⟩
  | 115 => ⟨S32x1x1, .f32⟩
  | 116 => ⟨S32x1x1, .f32⟩
  | 117 => ⟨S32x1x256, .f32⟩
  | 118 => ⟨S32x1x256, .f32⟩
  | 119 => ⟨S32x1x256, .f32⟩
  | 120 => ⟨S_, .f32⟩
  | 121 => ⟨S32x1, .f32⟩
  | 122 => ⟨S32x1x1, .f32⟩
  | 123 => ⟨S_, .f32⟩
  | 124 => ⟨S32x1x1, .f32⟩
  | 125 => ⟨S32x1x1, .f32⟩
  | 126 => ⟨S32x1x256, .f32⟩
  | 127 => ⟨S32x1x256, .f32⟩
  | _ => ⟨S32x512, .f32⟩

abbrev hbmTy0_2 (i : Nat) : BufTy := match i % 128 with
  | 0 => ⟨S_, .f32⟩
  | 1 => ⟨S32x1x1, .f32⟩
  | 2 => ⟨S32x1x1, .f32⟩
  | 3 => ⟨S32x1x1, .f32⟩
  | 4 => ⟨S32x1x256, .f32⟩
  | 5 => ⟨S32x1x256, .f32⟩
  | 6 => ⟨S1x1x256, .f32⟩
  | 7 => ⟨S32x1x256, .f32⟩
  | 8 => ⟨S32x1x256, .f32⟩
  | 9 => ⟨S1x1x256, .f32⟩
  | 10 => ⟨S32x1x256, .f32⟩
  | 11 => ⟨S32x1x256, .f32⟩
  | 12 => ⟨S32x1x256, .f32⟩
  | 13 => ⟨S32x1x256, .f32⟩
  | 14 => ⟨S_, .f32⟩
  | 15 => ⟨S32x1x256, .f32⟩
  | 16 => ⟨S32x1x256, .f32⟩
  | 17 => ⟨S_, .f32⟩
  | 18 => ⟨S32x1x256, .f32⟩
  | 19 => ⟨S32x1x256, .f32⟩
  | 20 => ⟨S32x1x256, .f32⟩
  | 21 => ⟨S32x30x256, .f32⟩
  | 22 => ⟨S32x256, .f32⟩
  | _ => ⟨S32x512, .f32⟩

abbrev hbmTy (i : Nat) : BufTy := match i / 128 with
  | 0 => hbmTy0_0 i
  | 1 => hbmTy0_1 i
  | 2 => hbmTy0_2 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_cst_1 : Ref sig .tc := ⟨.hbm, 239, rfl⟩
abbrev main_v231 : Ref sig .tc := ⟨.hbm, 240, rfl⟩
abbrev main_v232 : Ref sig .tc := ⟨.hbm, 241, rfl⟩
abbrev main_cst_2 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_cst_3 : Ref sig .tc := ⟨.hbm, 248, rfl⟩
abbrev main_v238 : Ref sig .tc := ⟨.hbm, 249, rfl⟩
abbrev main_v239 : Ref sig .tc := ⟨.hbm, 250, rfl⟩
abbrev main_cst_4 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_cst_5 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_call0_v0 : Ref sig .tc := ⟨.hbm, 268, rfl⟩
abbrev main_call0_v1 : Ref sig .tc := ⟨.hbm, 269, rfl⟩
abbrev main_call0_cst : Ref sig .tc := ⟨.hbm, 270, rfl⟩
abbrev main_call0_v2 : Ref sig .tc := ⟨.hbm, 271, rfl⟩
abbrev main_call0_v3 : Ref sig .tc := ⟨.hbm, 272, rfl⟩
abbrev main_call0_cst_0 : Ref sig .tc := ⟨.hbm, 273, rfl⟩
abbrev main_call0_v4 : Ref sig .tc := ⟨.hbm, 274, rfl⟩
abbrev main_call0_v5 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩

abbrev nD : Nat := 1
abbrev τ : Topo := Topo.v7x

variable {F : FTy → Type} [FloatOps F]
-- ==== Kernel6.lean ====
abbrev S16384x512 : Shape := ⟨2, ![16384, 512]⟩
abbrev S31x256 : Shape := ⟨2, ![31, 256]⟩
abbrev S256 : Shape := ⟨1, ![256]⟩
abbrev S1x256 : Shape := ⟨2, ![1, 256]⟩
abbrev S16384x256 : Shape := ⟨2, ![16384, 256]⟩
abbrev S4x30x256 : Shape := ⟨3, ![4, 30, 256]⟩
abbrev S512x512 : Shape := ⟨2, ![512, 512]⟩
abbrev S512x256 : Shape := ⟨2, ![512, 256]⟩
abbrev S1x30x256 : Shape := ⟨3, ![1, 30, 256]⟩
abbrev S544x256 : Shape := ⟨2, ![544, 256]⟩
abbrev S32x256 : Shape := ⟨2, ![32, 256]⟩
abbrev S64x256 : Shape := ⟨2, ![64, 256]⟩
abbrev S64 : Shape := ⟨1, ![64]⟩
abbrev S64x1 : Shape := ⟨2, ![64, 1]⟩
abbrev S30x256 : Shape := ⟨2, ![30, 256]⟩

abbrev nBuf : Space → Nat
  | .hbm => 10
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S16384x256, .f32⟩
  | .hbm, ⟨9, _⟩ => ⟨S4x30x256, .f32⟩
  | .local _ .vmem, ⟨0, _⟩ => ⟨S512x512, .f32⟩
  | .local _ .vmem, ⟨1, _⟩ => ⟨S512x512, .f32⟩
  | .local _ .vmem, ⟨2, _⟩ => ⟨S31x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S1x30x256, .f32⟩
  | .local _ .vmem, ⟨9, _⟩ => ⟨S1x30x256, .f32⟩
  | .local _ .vmem, ⟨10, _⟩ => ⟨S544x256, .f32⟩
  | .local _ .vmem, ⟨11, _⟩ => ⟨S32x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v1356 : BitVec 1 := Scalar.cmpi .eq arg1 c7_i32
  let v1357 : BitVec 32 := Scalar.extui v1356
  let c0_i32_421 : BitVec 32 := 0#32
  let v1358 : BitVec 1 := Scalar.cmpi .ne v1357 c0_i32_421
  v1358

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x30x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S16384x512 : Shape := ⟨2, ![16384, 512]⟩
abbrev S31x256 : Shape := ⟨2, ![31, 256]⟩
abbrev S256 : Shape := ⟨1, ![256]⟩
abbrev S4x4096x512 : Shape := ⟨3, ![4, 4096, 512]⟩
abbrev S4x4096x256 : Shape := ⟨3, ![4, 4096, 256]⟩
abbrev S_ : Shape := ⟨0, ![]⟩
abbrev S4x30x256 : Shape := ⟨3, ![4, 30, 256]⟩
abbrev S4x4126x256 : Shape := ⟨3, ![4, 4126, 256]⟩
abbrev S1x256 : Shape := ⟨2, ![1, 256]⟩
abbrev S1x1x256 : Shape := ⟨3, ![1, 1, 256]⟩
abbrev S4x4096 : Shape := ⟨2, ![4, 4096]⟩
abbrev S4x4096x1 : Shape := ⟨3, ![4, 4096, 1]⟩
abbrev S16384x256 : Shape := ⟨2, ![16384, 256]⟩

abbrev nBuf : Space → Nat
  | .hbm => 279
  | .vmem => 0
  | .smem => 0
  | _ => 0

abbrev hbmTy0_0 (i : Nat) : BufTy := match i % 128 with
  | 0 => ⟨S16384x512, .f32⟩
  | 1 => ⟨S31x256, .f32⟩
  | 2 => ⟨S256, .f32⟩
  | 3 => ⟨S256, .f32⟩
  | 4 => ⟨S256, .f32⟩
  | 5 => ⟨S4x4096x512, .f32⟩
  | 6 => ⟨S4x4096x256, .f32⟩
  | 7 => ⟨S4x4096x256, .f32⟩
  | 8 => ⟨S4x4096x256, .f32⟩
  | 9 => ⟨S4x4096x256, .f32⟩
  | 10 => ⟨S_, .f32⟩
  | 11 => ⟨S4x4096x256, .f32⟩
  | 12 => ⟨S4x4096x256, .f32⟩
  | 13 => ⟨S_, .f32⟩
  | 14 => ⟨S4x4096x256, .f32⟩
  | 15 => ⟨S4x4096x256, .f32⟩
  | 16 => ⟨S4x4096x256, .f32⟩
  | 17 => ⟨S_, .f32⟩
  | 18 => ⟨S4x30x256, .f32⟩
  | 19 => ⟨S4x4126x256, .f32⟩
  | 20 => ⟨S4x4096x256, .f32⟩
  | 21 => ⟨S1x256, .f32⟩
  | 22 => ⟨S256, .f32⟩
  | 23 => ⟨S1x1x256, .f32⟩
  | 24 => ⟨S4x4096x256, .f32⟩
  | 25 => ⟨S4x4096x256, .f32⟩
  | 26 => ⟨S4x4096x256, .f32⟩
  | 27 => ⟨S1x256, .f32⟩
  | 28 => ⟨S256, .f32⟩
  | 29 => ⟨S1x1x256, .f32⟩
  | 30 => ⟨S4x4096x256, .f32⟩
  | 31 => ⟨S4x4096x256, .f32⟩
  | 32 => ⟨S4x4096x256, .f32⟩
  | 33 => ⟨S4x4096x256, .f32⟩
  | 34 => ⟨S1x256, .f32⟩
  | 35 => ⟨S256, .f32⟩
  | 36 => ⟨S1x1x256, .f32⟩
  | 37 => ⟨S4x4096x256, .f32⟩
  | 38 => ⟨S4x4096x256, .f32⟩
  | 39 => ⟨S4x4096x256, .f32⟩
  | 40 => ⟨S4x4096x256, .f32⟩
  | 41 => ⟨S1x256, .f32⟩
  | 42 => ⟨S256, .f32⟩
  | 43 => ⟨S1x1x256, .f32⟩
  | 44 => ⟨S4x4096x256, .f32⟩
  | 45 => ⟨S4x4096x256, .f32⟩
  | 46 => ⟨S4x4096x256, .f32⟩
  | 47 => ⟨S4x4096x256, .f32⟩
  | 48 => ⟨S1x256, .f32⟩
  | 49 => ⟨S256, .f32⟩
  | 50 => ⟨S1x1x256, .f32⟩
  | 51 => ⟨S4x4096x256, .f32⟩
  | 52 => ⟨S4x4096x256, .f32⟩
  | 53 => ⟨S4x4096x256, .f32⟩
  | 54 => ⟨S4x4096x256, .f32⟩
  | 55 => ⟨S1x256, .f32⟩
  | 56 => ⟨S256, .f32⟩
  | 57 => ⟨S1x1x256, .f32⟩
  | 58 => ⟨S4x4096x256, .f32⟩
  | 59 => ⟨S4x4096x256, .f32⟩
  | 60 => ⟨S4x4096x256, .f32⟩
  | 61 => ⟨S4x4096x256, .f32⟩
  | 62 => ⟨S1x256, .f32⟩
  | 63 => ⟨S256, .f32⟩
  | 64 => ⟨S1x1x256, .f32⟩
  | 65 => ⟨S4x4096x256, .f32⟩
  | 66 => ⟨S4x4096x256, .f32⟩
  | 67 => ⟨S4x4096x256, .f32⟩
  | 68 => ⟨S4x4096x256, .f32⟩
  | 69 => ⟨S1x256, .f32⟩
  | 70 => ⟨S256, .f32⟩
  | 71 => ⟨S1x1x256, .f32⟩
  | 72 => ⟨S4x4096x256, .f32⟩
  | 73 => ⟨S4x4096x256, .f32⟩
  | 74 => ⟨S4x4096x256, .f32⟩
  | 75 => ⟨S4x4096x256, .f32⟩
  | 76 => ⟨S1x256, .f32⟩
  | 77 => ⟨S256, .f32⟩
  | 78 => ⟨S1x1x256, .f32⟩
  | 79 => ⟨S4x4096x256, .f32⟩
  | 80 => ⟨S4x4096x256, .f32⟩
  | 81 => ⟨S4x4096x256, .f32⟩
  | 82 => ⟨S4x4096x256, .f32⟩
  | 83 => ⟨S1x256, .f32⟩
  | 84 => ⟨S256, .f32⟩
  | 85 => ⟨S1x1x256, .f32⟩
  | 86 => ⟨S4x4096x256, .f32⟩
  | 87 => ⟨S4x4096x256, .f32⟩
  | 88 => ⟨S4x4096x256, .f32⟩
  | 89 => ⟨S4x4096x256, .f32⟩
  | 90 => ⟨S1x256, .f32⟩
  | 91 => ⟨S256, .f32⟩
  | 92 => ⟨S1x1x256, .f32⟩
  | 93 => ⟨S4x4096x256, .f32⟩
  | 94 => ⟨S4x4096x256, .f32⟩
  | 95 => ⟨S4x4096x256, .f32⟩
  | 96 => ⟨S4x4096x256, .f32⟩
  | 97 => ⟨S1x256, .f32⟩
  | 98 => ⟨S256, .f32⟩
  | 99 => ⟨S1x1x256, .f32⟩
  | 100 => ⟨S4x4096x256, .f32⟩
  | 101 => ⟨S4x4096x256, .f32⟩
  | 102 => ⟨S4x4096x256, .f32⟩
  | 103 => ⟨S4x4096x256, .f32⟩
  | 104 => ⟨S1x256, .f32⟩
  | 105 => ⟨S256, .f32⟩
  | 106 => ⟨S1x1x256, .f32⟩
  | 107 => ⟨S4x4096x256, .f32⟩
  | 108 => ⟨S4x4096x256, .f32⟩
  | 109 => ⟨S4x4096x256, .f32⟩
  | 110 => ⟨S4x4096x256, .f32⟩
  | 111 => ⟨S1x256, .f32⟩
  | 112 => ⟨S256, .f32⟩
  | 113 => ⟨S1x1x256, .f32⟩
  | 114 => ⟨S4x4096x256, .f32⟩
  | 115 => ⟨S4x4096x256, .f32⟩
  | 116 => ⟨S4x4096x256, .f32⟩
  | 117 => ⟨S4x4096x256, .f32⟩
  | 118 => ⟨S1x256, .f32⟩
  | 119 => ⟨S256, .f32⟩
  | 120 => ⟨S1x1x256, .f32⟩
  | 121 => ⟨S4x4096x256, .f32⟩
  | 122 => ⟨S4x4096x256, .f32⟩
  | 123 => ⟨S4x4096x256, .f32⟩
  | 124 => ⟨S4x4096x256, .f32⟩
  | 125 => ⟨S1x256, .f32⟩
  | 126 => ⟨S256, .f32⟩
  | 127 => ⟨S1x1x256, .f32⟩
  | _ => ⟨S16384x512, .f32⟩

abbrev hbmTy0_1 (i : Nat) : BufTy := match i % 128 with
  | 0 => ⟨S4x4096x256, .f32⟩
  | 1 => ⟨S4x4096x256, .f32⟩
  | 2 => ⟨S4x4096x256, .f32⟩
  | 3 => ⟨S4x4096x256, .f32⟩
  | 4 => ⟨S1x256, .f32⟩
  | 5 => ⟨S256, .f32⟩
  | 6 => ⟨S1x1x256, .f32⟩
  | 7 => ⟨S4x4096x256, .f32⟩
  | 8 => ⟨S4x4096x256, .f32⟩
  | 9 => ⟨S4x4096x256, .f32⟩
  | 10 => ⟨S4x4096x256, .f32⟩
  | 11 => ⟨S1x256, .f32⟩
  | 12 => ⟨S256, .f32⟩
  | 13 => ⟨S1x1x256, .f32⟩
  | 14 => ⟨S4x4096x256, .f32⟩
  | 15 => ⟨S4x4096x256, .f32⟩
  | 16 => ⟨S4x4096x256, .f32⟩
  | 17 => ⟨S4x4096x256, .f32⟩
  | 18 => ⟨S1x256, .f32⟩
  | 19 => ⟨S256, .f32⟩
  | 20 => ⟨S1x1x256, .f32⟩
  | 21 => ⟨S4x4096x256, .f32⟩
  | 22 => ⟨S4x4096x256, .f32⟩
  | 23 => ⟨S4x4096x256, .f32⟩
  | 24 => ⟨S4x4096x256, .f32⟩
  | 25 => ⟨S1x256, .f32⟩
  | 26 => ⟨S256, .f32⟩
  | 27 => ⟨S1x1x256, .f32⟩
  | 28 => ⟨S4x4096x256, .f32⟩
  | 29 => ⟨S4x4096x256, .f32⟩
  | 30 => ⟨S4x4096x256, .f32⟩
  | 31 => ⟨S4x4096x256, .f32⟩
  | 32 => ⟨S1x256, .f32⟩
  | 33 => ⟨S256, .f32⟩
  | 34 => ⟨S1x1x256, .f32⟩
  | 35 => ⟨S4x4096x256, .f32⟩
  | 36 => ⟨S4x4096x256, .f32⟩
  | 37 => ⟨S4x4096x256, .f32⟩
  | 38 => ⟨S4x4096x256, .f32⟩
  | 39 => ⟨S1x256, .f32⟩
  | 40 => ⟨S256, .f32⟩
  | 41 => ⟨S1x1x256, .f32⟩
  | 42 => ⟨S4x4096x256, .f32⟩
  | 43 => ⟨S4x4096x256, .f32⟩
  | 44 => ⟨S4x4096x256, .f32⟩
  | 45 => ⟨S4x4096x256, .f32⟩
  | 46 => ⟨S1x256, .f32⟩
  | 47 => ⟨S256, .f32⟩
  | 48 => ⟨S1x1x256, .f32⟩
  | 49 => ⟨S4x4096x256, .f32⟩
  | 50 => ⟨S4x4096x256, .f32⟩
  | 51 => ⟨S4x4096x256, .f32⟩
  | 52 => ⟨S4x4096x256, .f32⟩
  | 53 => ⟨S1x256, .f32⟩
  | 54 => ⟨S256, .f32⟩
  | 55 => ⟨S1x1x256, .f32⟩
  | 56 => ⟨S4x4096x256, .f32⟩
  | 57 => ⟨S4x4096x256, .f32⟩
  | 58 => ⟨S4x4096x256, .f32⟩
  | 59 => ⟨S4x4096x256, .f32⟩
  | 60 => ⟨S1x256, .f32⟩
  | 61 => ⟨S256, .f32⟩
  | 62 => ⟨S1x1x256, .f32⟩
  | 63 => ⟨S4x4096x256, .f32⟩
  | 64 => ⟨S4x4096x256, .f32⟩
  | 65 => ⟨S4x4096x256, .f32⟩
  | 66 => ⟨S4x4096x256, .f32⟩
  | 67 => ⟨S1x256, .f32⟩
  | 68 => ⟨S256, .f32⟩
  | 69 => ⟨S1x1x256, .f32⟩
  | 70 => ⟨S4x4096x256, .f32⟩
  | 71 => ⟨S4x4096x256, .f32⟩
  | 72 => ⟨S4x4096x256, .f32⟩
  | 73 => ⟨S4x4096x256, .f32⟩
  | 74 => ⟨S1x256, .f32⟩
  | 75 => ⟨S256, .f32⟩
  | 76 => ⟨S1x1x256, .f32⟩
  | 77 => ⟨S4x4096x256, .f32⟩
  | 78 => ⟨S4x4096x256, .f32⟩
  | 79 => ⟨S4x4096x256, .f32⟩
  | 80 => ⟨S4x4096x256, .f32⟩
  | 81 => ⟨S1x256, .f32⟩
  | 82 => ⟨S256, .f32⟩
  | 83 => ⟨S1x1x256, .f32⟩
  | 84 => ⟨S4x4096x256, .f32⟩
  | 85 => ⟨S4x4096x256, .f32⟩
  | 86 => ⟨S4x4096x256, .f32⟩
  | 87 => ⟨S4x4096x256, .f32⟩
  | 88 => ⟨S1x256, .f32⟩
  | 89 => ⟨S256, .f32⟩
  | 90 => ⟨S1x1x256, .f32⟩
  | 91 => ⟨S4x4096x256, .f32⟩
  | 92 => ⟨S4x4096x256, .f32⟩
  | 93 => ⟨S4x4096x256, .f32⟩
  | 94 => ⟨S4x4096x256, .f32⟩
  | 95 => ⟨S1x256, .f32⟩
  | 96 => ⟨S256, .f32⟩
  | 97 => ⟨S1x1x256, .f32⟩
  | 98 => ⟨S4x4096x256, .f32⟩
  | 99 => ⟨S4x4096x256, .f32⟩
  | 100 => ⟨S4x4096x256, .f32⟩
  | 101 => ⟨S4x4096x256, .f32⟩
  | 102 => ⟨S1x256, .f32⟩
  | 103 => ⟨S256, .f32⟩
  | 104 => ⟨S1x1x256, .f32⟩
  | 105 => ⟨S4x4096x256, .f32⟩
  | 106 => ⟨S4x4096x256, .f32⟩
  | 107 => ⟨S4x4096x256, .f32⟩
  | 108 => ⟨S1x1x256, .f32⟩
  | 109 => ⟨S4x4096x256, .f32⟩
  | 110 => ⟨S4x4096x256, .f32⟩
  | 111 => ⟨S_, .f32⟩
  | 112 => ⟨S4x4096, .f32⟩
  | 113 => ⟨S4x4096x1, .f32⟩
  | 114 => ⟨S_, .f32⟩
  | 115 => ⟨S4x4096x1, .f32⟩
  | 116 => ⟨S4x4096x1, .f32⟩
  | 117 => ⟨S4x4096x256, .f32⟩
  | 118 => ⟨S4x4096x256, .f32⟩
  | 119 => ⟨S4x4096x256, .f32⟩
  | 120 => ⟨S_, .f32⟩
  | 121 => ⟨S4x4096, .f32⟩
  | 122 => ⟨S4x4096x1, .f32⟩
  | 123 => ⟨S_, .f32⟩
  | 124 => ⟨S4x4096x1, .f32⟩
  | 125 => ⟨S4x4096x1, .f32⟩
  | 126 => ⟨S4x4096x256, .f32⟩
  | 127 => ⟨S4x4096x256, .f32⟩
  | _ => ⟨S16384x512, .f32⟩

abbrev hbmTy0_2 (i : Nat) : BufTy := match i % 128 with
  | 0 => ⟨S_, .f32⟩
  | 1 => ⟨S4x4096x1, .f32⟩
  | 2 => ⟨S4x4096x1, .f32⟩
  | 3 => ⟨S4x4096x1, .f32⟩
  | 4 => ⟨S4x4096x256, .f32⟩
  | 5 => ⟨S4x4096x256, .f32⟩
  | 6 => ⟨S1x1x256, .f32⟩
  | 7 => ⟨S4x4096x256, .f32⟩
  | 8 => ⟨S4x4096x256, .f32⟩
  | 9 => ⟨S1x1x256, .f32⟩
  | 10 => ⟨S4x4096x256, .f32⟩
  | 11 => ⟨S4x4096x256, .f32⟩
  | 12 => ⟨S4x4096x256, .f32⟩
  | 13 => ⟨S4x4096x256, .f32⟩
  | 14 => ⟨S_, .f32⟩
  | 15 => ⟨S4x4096x256, .f32⟩
  | 16 => ⟨S4x4096x256, .f32⟩
  | 17 => ⟨S_, .f32⟩
  | 18 => ⟨S4x4096x256, .f32⟩
  | 19 => ⟨S4x4096x256, .f32⟩
  | 20 => ⟨S4x4096x256, .f32⟩
  | 21 => ⟨S4x30x256, .f32⟩
  | 22 => ⟨S16384x256, .f32⟩
  | _ => ⟨S16384x512, .f32⟩

abbrev hbmTy (i : Nat) : BufTy := match i / 128 with
  | 0 => hbmTy0_0 i
  | 1 => hbmTy0_1 i
  | 2 => hbmTy0_2 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_cst_2 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_cst_4 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_cst_6 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_call0_v0 : Ref sig .tc := ⟨.hbm, 268, rfl⟩
abbrev main_call0_v1 : Ref sig .tc := ⟨.hbm, 269, rfl⟩
abbrev main_call0_cst : Ref sig .tc := ⟨.hbm, 270, rfl⟩
abbrev main_call0_v2 : Ref sig .tc := ⟨.hbm, 271, rfl⟩
abbrev main_call0_v3 : Ref sig .tc := ⟨.hbm, 272, rfl⟩
abbrev main_call0_cst_0 : Ref sig .tc := ⟨.hbm, 273, rfl⟩
abbrev main_call0_v4 : Ref sig .tc := ⟨.hbm, 274, rfl⟩
abbrev main_call0_v5 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩

abbrev nD : Nat := 1
abbrev τ : Topo := Topo.v7x

variable {F : FTy → Type} [FloatOps F]
-- ==== Kernel7.lean ====
abbrev S576 : Shape := ⟨1, ![576]⟩
abbrev S1 : Shape := ⟨1, ![1]⟩
abbrev S147456x1024 : Shape := ⟨2, ![147456, 1024]⟩
abbrev S2x64x1024x256 : Shape := ⟨4, ![2, 64, 1024, 256]⟩
abbrev S2x64x256x1024 : Shape := ⟨4, ![2, 64, 256, 1024]⟩
abbrev S256x1024 : Shape := ⟨2, ![256, 1024]⟩
abbrev S1x1x1024x256 : Shape := ⟨4, ![1, 1, 1024, 256]⟩
abbrev S1x1x256x1024 : Shape := ⟨4, ![1, 1, 256, 1024]⟩
abbrev S1024x256 : Shape := ⟨2, ![1024, 256]⟩
abbrev S256x256 : Shape := ⟨2, ![256, 256]⟩

abbrev nBuf : Space → Nat
  | .hbm => 5
  | .vmem => 13
  | .smem => 2
  | _ => 0

abbrev bufTy : (tb : Table) → Fin (tcTables nBuf tb) → BufTy
  | .hbm, ⟨0, _⟩ => ⟨S147456x1024, .f32⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S147456x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S256x1024, .f32⟩
  | .local _ .vmem, ⟨9, _⟩ => ⟨S256x1024, .f32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S576, .i32⟩
  | .local _ .smem, ⟨1, _⟩ => ⟨S1, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![576], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S576 : Shape := ⟨1, ![576]⟩
abbrev S1 : Shape := ⟨1, ![1]⟩
abbrev S147456x1024 : Shape := ⟨2, ![147456, 1024]⟩
abbrev S2x64x1024x256 : Shape := ⟨4, ![2, 64, 1024, 256]⟩
abbrev S2x64x256x1024 : Shape := ⟨4, ![2, 64, 256, 1024]⟩
abbrev S576x256x1024 : Shape := ⟨3, ![576, 256, 1024]⟩
abbrev S1x64x1024x256 : Shape := ⟨4, ![1, 64, 1024, 256]⟩
abbrev S64x1024x256 : Shape := ⟨3, ![64, 1024, 256]⟩
abbrev S576x1 : Shape := ⟨2, ![576, 1]⟩
abbrev S576x1024x256 : Shape := ⟨3, ![576, 1024, 256]⟩
abbrev S1x64x256x1024 : Shape := ⟨4, ![1, 64, 256, 1024]⟩
abbrev S64x256x1024 : Shape := ⟨3, ![64, 256, 1024]⟩
abbrev S576x256x256 : Shape := ⟨3, ![576, 256, 256]⟩
abbrev S_ : Shape := ⟨0, ![]⟩
abbrev S576x1x1 : Shape := ⟨3, ![576, 1, 1]⟩

abbrev nBuf : Space → Nat
  | .hbm => 43
  | .vmem => 0
  | .smem => 0
  | _ => 0

abbrev bufTy : (tb : Table) → Fin (tcTables nBuf tb) → BufTy
  | .hbm, ⟨0, _⟩ => ⟨S576, .i32⟩
  | .hbm, ⟨1, _⟩ => ⟨S1, .i32⟩
  | .hbm, ⟨2, _⟩ => ⟨S147456x1024, .f32⟩
  | .hbm, ⟨3, _⟩ => ⟨S2x64x1024x256, .f32⟩
  | .hbm, ⟨4, _⟩ => ⟨S2x64x1024x256, .f32⟩
  | .hbm, ⟨5, _⟩ => ⟨S2x64x256x1024, .f32⟩
  | .hbm, ⟨6, _⟩ => ⟨S576x256x1024, .f32⟩
  | .hbm, ⟨7, _⟩ => ⟨S1x64x1024x256, .f32⟩
  | .hbm, ⟨8, _⟩ => ⟨S64x1024x256, .f32⟩
  | .hbm, ⟨9, _⟩ => ⟨S576x1, .i32⟩
  | .hbm, ⟨10, _⟩ => ⟨S576x1024x256, .f32⟩
  | .hbm, ⟨11, _⟩ => ⟨S1x64x1024x256, .f32⟩
  | .hbm, ⟨12, _⟩ => ⟨S64x1024x256, .f32⟩
  | .hbm, ⟨13, _⟩ => ⟨S576x1, .i32⟩
  | .hbm, ⟨14, _⟩ => ⟨S576x1024x256, .f32⟩
  | .hbm, ⟨15, _⟩ => ⟨S1x64x256x1024, .f32⟩
  | .hbm, ⟨16, _⟩ => ⟨S64x256x1024, .f32⟩
  | .hbm, ⟨17, _⟩ => ⟨S576x1, .i32⟩
  | .hbm, ⟨18, _⟩ => ⟨S576x256x1024, .f32⟩
  | .hbm, ⟨19, _⟩ => ⟨S576x256x256, .f32⟩
  | .hbm, ⟨20, _⟩ => ⟨S576x256x256, .f32⟩
  | .hbm, ⟨21, _⟩ => ⟨S576x256x256, .f32⟩
  | .hbm, ⟨22, _⟩ => ⟨S_, .f32⟩
  | .hbm, ⟨23, _⟩ => ⟨S576x256x256, .f32⟩
  | .hbm, ⟨24, _⟩ => ⟨S576x256x256, .f32⟩
  | .hbm, ⟨25, _⟩ => ⟨S_, .f32⟩
  | .hbm, ⟨26, _⟩ => ⟨S576x256x256, .f32⟩
  | .hbm, ⟨27, _⟩ => ⟨S576x256x256, .f32⟩
  | .hbm, ⟨28, _⟩ => ⟨S576x256x256, .f32⟩
  | .hbm, ⟨29, _⟩ => ⟨S576x256x256, .f32⟩
  | .hbm, ⟨30, _⟩ => ⟨S576x256x256, .f32⟩
  | .hbm, ⟨31, _⟩ => ⟨S576x256x1024, .f32⟩
  | .hbm, ⟨32, _⟩ => ⟨S576, .i32⟩
  | .hbm, ⟨33, _⟩ => ⟨S_, .i32⟩
  | .hbm, ⟨34, _⟩ => ⟨S576, .i32⟩
  | .hbm, ⟨35, _⟩ => ⟨S576, .i1⟩
  | .hbm, ⟨36, _⟩ => ⟨S576x1x1, .i1⟩
  | .hbm, ⟨37, _⟩ => ⟨S_, .f32⟩
  | .hbm, ⟨38, _⟩ => ⟨S_, .f32⟩
  | .hbm, ⟨39, _⟩ => ⟨S576x256x1024, .i1⟩
  | .hbm, ⟨40, _⟩ => ⟨S576x256x1024, .f32⟩
  | .hbm, ⟨41, _⟩ => ⟨S576x256x1024, .f32⟩
  | .hbm, ⟨42, _⟩ => ⟨S147456x1024, .f32⟩
  | _, _ => ⟨S576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call2_v0 : Ref sig .tc := ⟨.hbm, 17, rfl⟩
abbrev main_v9 : Ref sig .tc := ⟨.hbm, 18, rfl⟩
abbrev main_v10 : Ref sig .tc := ⟨.hbm, 19, rfl⟩
abbrev main_call3_v0 : Ref sig .tc := ⟨.hbm, 20, rfl⟩
abbrev main_call3_v1 : Ref sig .tc := ⟨.hbm, 21, rfl⟩
abbrev main_call3_cst : Ref sig .tc := ⟨.hbm, 22, rfl⟩
abbrev main_call3_v2 : Ref sig .tc := ⟨.hbm, 23, rfl⟩
abbrev main_call3_v3 : Ref sig .tc := ⟨.hbm, 24, rfl⟩
abbrev main_call3_cst_0 : Ref sig .tc := ⟨.hbm, 25, rfl⟩
abbrev main_call3_v4 : Ref sig .tc := ⟨.hbm, 26, rfl⟩
abbrev main_call3_v5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_call4_v0 : Ref sig .tc := ⟨.hbm, 38, rfl⟩
abbrev main_call4_v1 : Ref sig .tc := ⟨.hbm, 39, rfl⟩
abbrev main_call4_v2 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]
-- ==== Proof.AnyIdeal.lean ====
/- The expert layer at arbitrary expert tables: the kernel's schedule read off the tables, its run and its frame. -/
module

public import proofs.«01_k».proof.Proof.Gen.Kernel7Ideal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel7Ideal.Any

open Cert.Kernel7Ideal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel7Ideal.Gen

local notation "𝕄" => MT nD τ sig Unit (Elt Ideal) ℕ (UR sig nD τ) ℕ

abbrev EP : Emb (UR sig nD τ) 𝕄 := emb₁

/-! ## The tables -/

/-- The tables of a call: each block's expert, below 64, and how many blocks are used. -/
structure Sched where
  /-- The expert of each block. -/
  be : S576.Idx → BitVec 32
  /-- The number of blocks used. -/
  nu : S1.Idx → BitVec 32
  /-- Every expert is one of the 64. -/
  hbe : ∀ x, (be x).toNat < 64

variable (ch : Sched)

/-- The tables' contents. -/
def pfN : pre0.Contents (Elt Ideal) := fun | ⟨0, _⟩ => ch.be | ⟨1, _⟩ => ch.nu | ⟨_ + 2, h⟩ => absurd h (by simp)

/-- The launch memory holds the tables. -/
def Pinned (m : (ℓ : Loc nD τ sig) → Buf (Elt Ideal) ℓ) : Prop :=
  (∀ c : Dev nD, m ((c : Thread nD τ).loc main_arg0) = ch.be)
  ∧ (∀ c : Dev nD, m ((c : Thread nD τ).loc main_arg1) = ch.nu)

/-- Clamping a block number under any signed bound and then above zero leaves it at most itself. -/
theorem clamp_le (b : ℕ) (hb : b < 576) (n : BitVec 32) :
    (Scalar.maxsi (Scalar.minsi (BitVec.ofNat 32 b) n) 0#32).toNat ≤ b := by
  have hbn : (BitVec.ofNat 32 b).toNat = b := by rw [BitVec.toNat_ofNat]; omega
  have hbi : (BitVec.ofNat 32 b).toInt = b := by
    rw [BitVec.toInt_eq_toNat_of_lt (by rw [hbn]; omega), hbn]
  unfold Scalar.maxsi Scalar.minsi IntOp.maxsi IntOp.minsi
  by_cases h1 : (BitVec.ofNat 32 b).slt n = true
  · rw [if_pos h1]
    split
    · exact hbn.le
    · exact Nat.zero_le _
  · rw [if_neg h1]
    by_cases h2 : (0#32).slt n = true
    · rw [if_pos h2]
      rw [BitVec.slt_iff_toInt_lt] at h1 h2
      rw [hbi] at h1
      have h0 : (0#32).toInt = 0 := rfl
      rw [h0] at h2
      have h3 : (n.toNat : ℤ) = n.toInt := by
        have := BitVec.toInt_eq_toNat_cond n
        have := n.isLt
        split at * <;> omega
      omega
    · rw [if_neg h2]; exact Nat.zero_le _

theorem ok_xs (i : grid0.Coords) : ∀ a, (cc0_transform_0 inb_S1_S1_0 numel1_S1 (pfN ch) i a + 1) * S256x1024.size a ≤ S147456x1024.size a := by
  intro a
  have hi : (i 0).val < 576 := (i 0).isLt
  fin_cases a
  · have := clamp_le (i 0).val hi (Scalar.subi ((pfN ch).at 1 (Rect.unit (s := S1) ![0] S1.size inb_S1_S1_0) numel1_S1) 1#32)
    show ((Scalar.maxsi (Scalar.minsi (BitVec.ofNat 32 (i 0).val) (Scalar.subi ((pfN ch).at 1 (Rect.unit (s := S1) ![0] S1.size inb_S1_S1_0) numel1_S1) 1#32)) 0#32).toNat + 1) * 256 ≤ 147456
    omega
  · show (0 + 1) * 1024 ≤ 1024; omega

theorem ok_w1 (i : grid0.Coords) : ∀ a, (cc0_transform_1 k0_off1_inb numel1_S1 (pfN ch) i a + 1) * S1x1x1024x256.size a ≤ S2x64x1024x256.size a := by
  intro a
  fin_cases a
  · show (0 + 1) * 1 ≤ 2; omega
  · have : ((pfN ch).at 0 (Rect.unit (s := S576) ![(Scalar.indexCast (BitVec.ofNat 32 (i 0).val)).toNat] S1.size (k0_off1_inb i)) numel1_S1).toNat < 64 := ch.hbe _
    show (((pfN ch).at 0 (Rect.unit (s := S576) ![(Scalar.indexCast (BitVec.ofNat 32 (i 0).val)).toNat] S1.size (k0_off1_inb i)) numel1_S1).toNat + 1) * 1 ≤ 64
    omega
  · show (0 + 1) * 1024 ≤ 1024; omega
  · show (0 + 1) * 256 ≤ 256; omega

theorem ok_w3 (i : grid0.Coords) : ∀ a, (cc0_transform_3 k0_off1_inb numel1_S1 (pfN ch) i a + 1) * S1x1x256x1024.size a ≤ S2x64x256x1024.size a := by
  intro a
  fin_cases a
  · show (0 + 1) * 1 ≤ 2; omega
  · have : ((pfN ch).at 0 (Rect.unit (s := S576) ![(Scalar.indexCast (BitVec.ofNat 32 (i 0).val)).toNat] S1.size (k0_off1_inb i)) numel1_S1).toNat < 64 := ch.hbe _
    show (((pfN ch).at 0 (Rect.unit (s := S576) ![(Scalar.indexCast (BitVec.ofNat 32 (i 0).val)).toNat] S1.size (k0_off1_inb i)) numel1_S1).toNat + 1) * 1 ≤ 64
    omega
  · show (0 + 1) * 256 ≤ 256; omega
  · show (0 + 1) * 1024 ≤ 1024; omega

/-- Every block that the tables name lies in its array. -/
theorem ok_pfN : ok0 (F := Ideal) (pfN ch) :=
  ⟨fun i => ⟨ok_xs ch i, .inl rfl⟩, fun i => ⟨ok_w1 ch i, .inl rfl⟩, fun i => ⟨ok_w1 ch i, .inl rfl⟩, fun i => ⟨ok_w3 ch i, .inl rfl⟩⟩

/-- The admissible contents, the pipeline at them (`cfgA ch`: member `ch`'s grid, 576 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S256x1024 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1x1024x256 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1x1024x256 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1x256x1024 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S256x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.andi (Scalar.ori (Scalar.cmpi .eq (BitVec.ofNat 32 ((crd ch t) 0).val) 0#32) (Scalar.cmpi .ne (View.readAt (Elt Ideal) (tbM0_0).view (Rect.unit (s := S576) (k0_off1 (crd ch t)) S1.size (k0_off1_inb (crd ch t))).toLoadRect ch.be (Shape.Idx.first (numel1_S1.symm ▸ Nat.one_pos))) (View.readAt (Elt Ideal) (tbM0_0).view (Rect.unit (s := S576) (k0_off2 (crd ch t)) S1.size (k0_off2_inb (crd ch t))).toLoadRect ch.be (Shape.Idx.first (numel1_S1.symm ▸ Nat.one_pos))))) (Scalar.cmpi .slt (BitVec.ofNat 32 ((crd ch t) 0).val) (View.readAt (Elt Ideal) (tbM0_1).view (Rect.unit (s := S1) ![0] S1.size inb_S1_S1_0).toLoadRect ch.nu (Shape.Idx.first (numel1_S1.symm ▸ Nat.one_pos)))))) 0#32) = 1#1
abbrev P0_1 (t : Fin (cfgA ch).N) : Prop := k0_cond2 (crd ch t) (View.readAt (Elt Ideal) (tbM0_1).view (Rect.unit (s := S1) ![0] S1.size inb_S1_S1_0).toLoadRect ch.nu (Shape.Idx.first (numel1_S1.symm ▸ Nat.one_pos))) = 1#1

/-- No weights are held before position `n`: so until the first point that takes an expert up. -/
def fresh : ℕ → Bool
  | 0 => true
  | n + 1 => if h : n < (cfgA ch).N then (if P0_0 ch ⟨n, h⟩ then false else fresh n) else fresh n

theorem fresh_A (t : Fin (cfgA ch).N) (q0 : P0_0 ch t) : fresh ch (t.val + 1) = false := by
  rw [fresh, dif_pos t.isLt, if_pos q0]

theorem fresh_BC (t : Fin (cfgA ch).N) (q0 : ¬P0_0 ch t) : fresh ch (t.val + 1) = fresh ch t.val := by
  rw [fresh, dif_pos t.isLt, if_neg q0]

/-! ## The conditions -/

theorem bit_ext : ∀ x : BitVec 1, (Scalar.cmpi .ne (Scalar.extui x) 0#32 = 1#1) ↔ x = 1#1 := by decide
theorem bit_and : ∀ x y : BitVec 1, Scalar.andi x y = 1#1 ↔ x = 1#1 ∧ y = 1#1 := by decide
theorem bit_or : ∀ x y : BitVec 1, Scalar.ori x y = 1#1 ↔ x = 1#1 ∨ y = 1#1 := by decide

theorem slt_sge (x y : BitVec 32) : Scalar.cmpi .sge x y = 1#1 ↔ ¬Scalar.cmpi .slt x y = 1#1 := by
  unfold Scalar.cmpi IntOp.cmpi
  have h : y.sle x = !x.slt y := by
    rw [BitVec.sle_eq_not_slt]
  simp only [h]
  cases x.slt y <;> decide

theorem cond2_iff (i : grid0.Coords) (n : BitVec 32) : k0_cond2 i n = 1#1 ↔ Scalar.cmpi .slt (BitVec.ofNat 32 (i 0).val) n = 1#1 := bit_ext _
theorem cond3_iff (i : grid0.Coords) (n : BitVec 32) : k0_cond3 i n = 1#1 ↔ ¬k0_cond2 i n = 1#1 :=
  (bit_ext _).trans ((slt_sge _ _).trans (not_congr (cond2_iff i n).symm))

/-- A point that takes an expert up is one of the used blocks. -/
theorem used_of_A (t : Fin (cfgA ch).N) (q0 : P0_0 ch t) : P0_1 ch t :=
  (cond2_iff _ _).mpr ((bit_and _ _).mp ((bit_ext _).mp q0)).2

/-- The first point takes its expert up if it is used. -/
theorem A_of_zero (t : Fin (cfgA ch).N) (h0 : ((crd ch t) 0).val = 0) (q1 : P0_1 ch t) : P0_0 ch t :=
  (bit_ext _).mpr ((bit_and _ _).mpr ⟨(bit_or _ _).mpr (.inl (by rw [h0]; decide)), (cond2_iff _ _).mp q1⟩)

/-- A point's one coordinate is its position. -/
theorem crd_val : ∀ t : Fin grid0.N, (grid0.coords t 0).val = t.val := by decide +kernel

theorem slt_mono (a b : ℕ) (hab : a ≤ b) (hb : b < 576) (n : BitVec 32) (h : Scalar.cmpi .slt (BitVec.ofNat 32 b) n = 1#1) :
    Scalar.cmpi .slt (BitVec.ofNat 32 a) n = 1#1 := by
  have e : ∀ k, k < 576 → (BitVec.ofNat 32 k).toInt = k := fun k hk => by
    have hk' : (BitVec.ofNat 32 k).toNat = k := by rw [BitVec.toNat_ofNat]; omega
    rw [BitVec.toInt_eq_toNat_of_lt (by rw [hk']; omega), hk']
  have d : ∀ x : Bool, BitVec.ofBool x = 1#1 ↔ x = true := by decide
  have h' := (d _).mp h
  refine (d _).mpr ?_
  rw [BitVec.slt_iff_toInt_lt] at h' ⊢
  rw [e b hb] at h'; rw [e a (by omega)]; omega

/-- Points before a used one are used. -/
theorem used_mono (t u : Fin (cfgA ch).N) (htu : t.val ≤ u.val) (q : P0_1 ch u) : P0_1 ch t := by
  have ht : ((crd ch t) 0).val = t.val := crd_val t
  have hu : ((crd ch u) 0).val = u.val := crd_val u
  have h := (cond2_iff _ _).mp q
  refine (cond2_iff _ _).mpr ?_
  rw [hu] at h; rw [ht]
  exact slt_mono _ _ htu u.isLt _ h

theorem not_fresh_succ (n : ℕ) (h : fresh ch n = false) : fresh ch (n + 1) = false := by
  rw [fresh]; split
  · split
    · rfl
    · exact h
  · exact h

/-- The first point. -/
def t0 : Fin (cfgA ch).N := ⟨0, show 0 < grid0.N by decide⟩

/-- Past a first used point weights are held. -/
theorem not_fresh (q : P0_1 ch (t0 ch)) : ∀ n, fresh ch (n + 1) = false
  | 0 => fresh_A ch (t0 ch) (A_of_zero ch (t0 ch) (crd_val (t0 ch)) q)
  | n + 1 => not_fresh_succ ch (n + 1) (not_fresh q n)

/-- At a used point that takes no expert up weights are held. -/
theorem held_B (t : Fin (cfgA ch).N) (q0 : ¬P0_0 ch t) (q1 : P0_1 ch t) : fresh ch t.val = false := by
  rcases Nat.eq_zero_or_pos t.val with h | h
  · exact absurd (A_of_zero ch t ((crd_val t).trans h) q1) q0
  · obtain ⟨k, hk⟩ : ∃ k, t.val = k + 1 := ⟨t.val - 1, by omega⟩
    rw [hk]; exact not_fresh ch (used_mono ch (t0 ch) t (Nat.zero_le _) q1) k

/-! ## The schedule -/

theorem out_live (t : Fin (cfgA ch).N) : (cfgA ch).idle (4 : Fin 5) ((cfgA ch).grid.coords t) = false := by
  show (!(k0_cond2 (crd ch t) ((pfN ch).atD 1 ![0]) == 1#1) && !(k0_cond3 (crd ch t) ((pfN ch).atD 1 ![0]) == 1#1)) = false
  by_cases h : k0_cond2 (crd ch t) ((pfN ch).atD 1 ![0]) = 1#1
  · rw [h]; rfl
  · rw [(cond3_iff _ _).mpr h]; simp

theorem idx_ne : ∀ t u : Fin grid0.N, t.val + 1 = u.val → cc0_transform_4 (grid0.coords u) ≠ cc0_transform_4 (grid0.coords t) := by
  intro t u h e
  have h0 := congrFun e 0
  have e' : ∀ s : Fin grid0.N, cc0_transform_4 (grid0.coords s) 0 = s.val := fun s => by
    show (BitVec.ofNat 32 (grid0.coords s 0).val).toNat = s.val
    have hs : s.val < 576 := s.isLt
    rw [crd_val, BitVec.toNat_ofNat]; omega
  rw [e', e'] at h0; omega

/-- Every point writes its block back. -/
theorem out_flush (t : Fin (cfgA ch).N) : ((cfgA ch).win (4 : Fin 5)).flush t = true := by
  unfold Pipeline.Window.flush
  by_cases h : t.val + 1 = (cfgA ch).grid.N
  · rw [h]; simp
  · have hlt : t.val + 1 < (cfgA ch).grid.N := Nat.lt_of_le_of_ne t.isLt h
    have : decide (∃ h : t.val + 1 < (cfgA ch).grid.N, ((cfgA ch).win (4 : Fin 5)).index ⟨t.val + 1, h⟩ ≠ ((cfgA ch).win (4 : Fin 5)).index t) = true :=
      decide_eq_true ⟨hlt, idx_ne t ⟨t.val + 1, hlt⟩ rfl⟩
    rw [this, Bool.or_true, Bool.and_true]

theorem out_fresh (t : Fin (cfgA ch).N) : (cfgA ch).fresh (4 : Fin 5) t.val = true :=
  Pipeline.Cfg.fresh_tab (cfgA ch) (4 : Fin 5) (fun _ => true) rfl (fun t => by rw [out_flush ch t, Bool.true_or]) t.val (Nat.le_of_lt t.isLt)

theorem hypsR0_A (t : Fin (cfgA ch).N) (q0 : P0_0 ch t) : P0_0 ch t ∧ P0_1 ch t
    ∧ (¬(k0_cond3 (crd ch t) (View.readAt (Elt Ideal) (tbM0_1).view (Rect.unit (s := S1) ![0] S1.size inb_S1_S1_0).toLoadRect ch.nu (Shape.Idx.first (numel1_S1.symm ▸ Nat.one_pos))) = 1#1)) ∧ True :=
  ⟨q0, used_of_A ch t q0, fun h => (cond3_iff _ _).mp h (used_of_A ch t q0), trivial⟩

theorem hypsR0_B (t : Fin (cfgA ch).N) (q0 : ¬P0_0 ch t) (q1 : P0_1 ch t) : ¬P0_0 ch t ∧ P0_1 ch t
    ∧ (¬(k0_cond3 (crd ch t) (View.readAt (Elt Ideal) (tbM0_1).view (Rect.unit (s := S1) ![0] S1.size inb_S1_S1_0).toLoadRect ch.nu (Shape.Idx.first (numel1_S1.symm ▸ Nat.one_pos))) = 1#1)) ∧ True :=
  ⟨q0, q1, fun h => (cond3_iff _ _).mp h q1, trivial⟩

theorem hypsR0_C (t : Fin (cfgA ch).N) (q0 : ¬P0_0 ch t) (q1 : ¬P0_1 ch t) : ¬P0_0 ch t ∧ ¬P0_1 ch t
    ∧ (k0_cond3 (crd ch t) (View.readAt (Elt Ideal) (tbM0_1).view (Rect.unit (s := S1) ![0] S1.size inb_S1_S1_0).toLoadRect ch.nu (Shape.Idx.first (numel1_S1.symm ▸ Nat.one_pos))) = 1#1) ∧ True :=
  ⟨q0, q1, (cond3_iff _ _).mpr q1, trivial⟩

theorem sched0_A (t : Fin (cfgA ch).N) (q0 : P0_0 ch t) :
    (cfgA ch).idle (4 : Fin 5) ((cfgA ch).grid.coords t) = false ∧ ((cfgA ch).win (4 : Fin 5)).flush t = true
      ∧ (cfgA ch).fresh (4 : Fin 5) t.val = true ∧ fresh ch (t.val + 1) = false :=
  ⟨out_live ch t, out_flush ch t, out_fresh ch t, fresh_A ch t q0⟩

theorem sched0_B (t : Fin (cfgA ch).N) (q0 : ¬P0_0 ch t) (q1 : P0_1 ch t) :
    (cfgA ch).idle (4 : Fin 5) ((cfgA ch).grid.coords t) = false ∧ ((cfgA ch).win (4 : Fin 5)).flush t = true
      ∧ (cfgA ch).fresh (4 : Fin 5) t.val = true ∧ fresh ch t.val = false ∧ fresh ch (t.val + 1) = false :=
  ⟨out_live ch t, out_flush ch t, out_fresh ch t, held_B ch t q0 q1, (fresh_BC ch t q0).trans (held_B ch t q0 q1)⟩

theorem sched0_C (t : Fin (cfgA ch).N) (q0 : ¬P0_0 ch t) (q1 : ¬P0_1 ch t) :
    (cfgA ch).idle (4 : Fin 5) ((cfgA ch).grid.coords t) = false ∧ ((cfgA ch).win (4 : Fin 5)).flush t = true
      ∧ (cfgA ch).fresh (4 : Fin 5) t.val = true ∧ fresh ch (t.val + 1) = fresh ch t.val :=
  ⟨out_live ch t, out_flush ch t, out_fresh ch t, fresh_BC ch t q0⟩

/-! ## What the outputs and scratches hold after each point -/

/-- ONE STEP of the trajectory: what the outputs' current buffers and the scratches hold after the body at point `t`
    (output 4, scratch 0, scratch 1, scratch 2), from what they held before (`prev`): the path the decisions select at `t`, its
    run's contents; an output the path leaves idle keeps what it held (junk — `default`, named by nothing — where fresh). -/
def step0 (c : Dev nD) (t : Fin (cfgA ch).N) (prev : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if q0 : P0_0 ch t then
    (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.2.2.1)
  else
    if q1 : P0_1 ch t then
      (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1)
    else
      (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.2.2.1)

/-- THE TRAJECTORY: after position `n`. -/
def traj0 (c : Dev nD) : (n : ℕ) → n < (cfgA ch).N → (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : P0_0 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.2.2.1) := by
  unfold step0; simp only [dif_pos q0]

/-- `step0` at a point of path B. -/
theorem step0_B (c : Dev nD) (t : Fin (cfgA ch).N) (prev : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : ¬P0_0 ch t) (q1 : P0_1 ch t) :
    step0 ch m ρ c t prev = (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1) := by
  unfold step0; simp only [dif_neg q0, dif_pos q1]

/-- `step0` at a point of path C. -/
theorem step0_C (c : Dev nD) (t : Fin (cfgA ch).N) (prev : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : ¬P0_0 ch t) (q1 : ¬P0_1 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.2.2.1) := by
  unfold step0; simp only [dif_neg q0, dif_neg q1]

/-! ## The pipeline's proof data -/

/-- What the tracked buffers held before position `t` of `Fin (N+1)` (the invariant's index). -/
def prev0T (c : Dev nD) (t : Fin ((cfgA ch).N + 1)) : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜fresh ch t.val = false → a = (prev0T ch m ρ c t).2.1⌝ ∗ (scM0_0.view.loc (c : Thread nD τ) ↦{fullShare} a)) ∗ (∃ a, ⌜fresh ch t.val = false → a = (prev0T ch m ρ c t).2.2.1⌝ ∗ (scM0_1.view.loc (c : Thread nD τ) ↦{fullShare} a)) ∗ (∃ a, ⌜fresh ch t.val = false → a = (prev0T ch m ρ c t).2.2.2⌝ ∗ (scM0_2.view.loc (c : Thread nD τ) ↦{fullShare} a)) ∗ (tbM0_0.view.loc (c : Thread nD τ) ↦{fullShare.right} ch.be) ∗ (tbM0_1.view.loc (c : Thread nD τ) ↦{fullShare.right} ch.nu))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · obtain ⟨i4, -, -, -⟩ := sched0_A ch t q0
    rw [i4] at hi; exact absurd hi (by decide)
  · by_cases q1 : P0_1 ch t
    · obtain ⟨i4, -, -, -, -⟩ := sched0_B ch t q0 q1
      rw [i4] at hi; exact absurd hi (by decide)
    · obtain ⟨i4, -, -, -⟩ := sched0_C ch t q0 q1
      rw [i4] at hi; exact absurd hi (by decide)

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i4, f4, fr4, sfn0⟩ := sched0_A ch t q0
    have F0 := hypsR0_A ch t q0
    have hc0 := F0.1; have F1 := F0.2
    have k0_h2 := F1.1; have F2 := F1.2
    have k0_h3 := F2.1; have F3 := F2.2
    clear F0 F1 F2 F3
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) hc0 k0_h2 k0_h3).2.2.2.2 a0 a1 a2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn0]; decide) | decide)
      isplitl [HS2]
      · iexists _; isplitr; swap
        · iexact HS2
        · ipureintro; intro hn; first | rfl | exact absurd hn (by first | (rw [sfn0]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _ _)
  · by_cases q1 : P0_1 ch t
    · obtain ⟨i4, f4, fr4, sf0, sfn0⟩ := sched0_B ch t q0 q1
      have F0 := hypsR0_B ch t q0 q1
      have hc0 := F0.1; have F1 := F0.2
      have k0_h2 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) _ _ _ hc0 k0_h2 k0_h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn0]; decide) | decide)
        isplitl [HS2]
        · iexists _; isplitr; swap
          · iexact HS2
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _ _ _)
    · obtain ⟨i4, f4, fr4, sfe⟩ := sched0_C ch t q0 q1
      have F0 := hypsR0_C ch t q0 q1
      have hc0 := F0.1; have F1 := F0.2
      have k0_h2 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) ch.be ch.nu (iblk ch m ρ c (0 : Fin 5) t) (iblk ch m ρ c (1 : Fin 5) t) (iblk ch m ρ c (2 : Fin 5) t) (iblk ch m ρ c (3 : Fin 5) t) a0 a1 a2 hc0 k0_h2 k0_h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; rw [ha0 (sfe.symm.trans hn)]; rfl
        isplitl [HS1]
        · iexists _; isplitr; swap
          · iexact HS1
          · ipureintro; intro hn; rw [ha1 (sfe.symm.trans hn)]; rfl
        isplitl [HS2]
        · iexists _; isplitr; swap
          · iexact HS2
          · ipureintro; intro hn; rw [ha2 (sfe.symm.trans hn)]; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _ _ _ _ _)

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show fresh ch 0 = true from rfl)) Bool.false_ne_true
  isplitl [HS1]
  · iexists a1; isplitr; swap
    · iexact HS1
    · ipureintro; intro h; exact absurd (h.symm.trans (show fresh ch 0 = true from rfl)) Bool.false_ne_true
  isplitl [HS2]
  · iexists a2; isplitr; swap
    · iexact HS2
    · ipureintro; intro h; exact absurd (h.symm.trans (show fresh ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- THE FRAME under the pinning: from a launch memory whose tables and steering words are member `ch`'s, every weakly fair
    execution terminates, nothing faults, every argument array ends unchanged and every semaphore counter of the machine reads
    zero at every final state — `Cert.quiescent_Kernel7Ideal`'s post.
    Proof.lean: `theorem Cert.Proof.claim : Cert.Claim := ⟨Cert.Kernel7Ideal.Gen.facts, <Pre>.Gen.facts, fun m ρ h => (pinned_of_pre m h).elim fun ch hp => Cert.Kernel7Ideal.Gen.frame ch m ρ hp⟩`. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Kernel7Ideal.Any

end
-- ==== Proof.Sched.lean ====
/- What the experts' precondition says of the launch memory: every block's expert is one of the 64, so the run over any
   tables of that kind applies. -/
module

public import proofs.«01_k».proof.Defs
public import proofs.«01_k».proof.Proof.Gen.Pre_experts
public import proofs.«01_k».proof.Proof.AnyBits
public import proofs.«01_k».proof.Proof.AnyIdeal
public import Idealize.ShloMosaic.Lib.ReduceAll
public import Idealize.ShloMosaic.Lib.WordArith

@[expose] public section

set_option maxRecDepth 16384

noncomputable section

open Idealize.ShloMosaic
open Idealize.ShloMosaic.TcCoe

namespace Cert.Scheds

instance : Subsingleton Cert.Pre_experts.S_.Idx := ⟨fun a b => funext fun k => k.elim0⟩

/-- A word at least 0 and below 64, both signed, is below 64. -/
theorem lt_of_signed (x : BitVec 32) (h0 : IntOp.cmpi .sge x 0#32 = 1#1) (h1 : IntOp.cmpi .slt x 64#32 = 1#1) : x.toNat < 64 := by
  have e0 : BitVec.ofBool ((0#32).sle x) = 1#1 := h0
  have e1 : BitVec.ofBool (x.slt 64#32) = 1#1 := h1
  rw [WordArith.ofBool_eq_one_iff] at e0 e1
  rw [BitVec.sle_iff_toInt_le] at e0
  rw [BitVec.slt_iff_toInt_lt] at e1
  have z : (0#32).toInt = 0 := by decide
  have s : (64#32).toInt = 64 := by decide
  rw [z] at e0
  rw [s] at e1
  rw [BitVec.toInt_eq_toNat_cond] at e0 e1
  split at e0 <;> split at e1 <;> omega

variable {F : FTy → Type} [FloatOps F]

attribute [local instance] Cert.Pre_experts.Gen.facts

theorem lt_of_fn (a0 : IVec Cert.Pre_experts.S576 32) (a1 : IVec Cert.Pre_experts.S1 32) (a2 : FVec F Cert.Pre_experts.S147456x1024 .f32)
    (a3 a4 : FVec F Cert.Pre_experts.S2x64x1024x256 .f32) (a5 : FVec F Cert.Pre_experts.S2x64x256x1024 .f32)
    (h : Cert.Pre_experts.fn a0 a1 a2 a3 a4 a5 = fun _ => 1#1) (i : Cert.Pre_experts.S576.Idx) : (a0 i).toNat < 64 := by
  have e := congrFun h (fun k => k.elim0)
  have e2 := IntOp.andi_eq_one.1 e
  exact lt_of_signed _ (Host.reduce_andi_all _ _ _ _ _ e2.1 i) (Host.reduce_andi_all _ _ _ _ _ e2.2 i)

theorem bits (m : (ℓ : Loc Cert.Kernel7.nD Cert.Kernel7.τ Cert.Kernel7.sig) → Buf (Elt Bits) ℓ) (h : Cert.Pre_Kernel7 m) :
    ∃ ch : Cert.Kernel7.Any.Sched, Cert.Kernel7.Any.Pinned ch m :=
  ⟨⟨m (((0 : Dev Cert.Kernel7.nD) : Thread Cert.Kernel7.nD Cert.Kernel7.τ).loc Cert.Kernel7.main_arg0),
    m (((0 : Dev Cert.Kernel7.nD) : Thread Cert.Kernel7.nD Cert.Kernel7.τ).loc Cert.Kernel7.main_arg1),
    fun i => lt_of_fn _ _ _ _ _ _ (h 0) i⟩, fun c => by rw [Subsingleton.elim c 0], fun c => by rw [Subsingleton.elim c 0]⟩

theorem ideal (m : (ℓ : Loc Cert.Kernel7Ideal.nD Cert.Kernel7Ideal.τ Cert.Kernel7Ideal.sig) → Buf (Elt Ideal) ℓ)
    (h : Cert.Pre_Kernel7Ideal m) : ∃ ch : Cert.Kernel7Ideal.Any.Sched, Cert.Kernel7Ideal.Any.Pinned ch m :=
  ⟨⟨m (((0 : Dev Cert.Kernel7Ideal.nD) : Thread Cert.Kernel7Ideal.nD Cert.Kernel7Ideal.τ).loc Cert.Kernel7Ideal.main_arg0),
    m (((0 : Dev Cert.Kernel7Ideal.nD) : Thread Cert.Kernel7Ideal.nD Cert.Kernel7Ideal.τ).loc Cert.Kernel7Ideal.main_arg1),
    fun i => lt_of_fn _ _ _ _ _ _ (h 0) i⟩, fun c => by rw [Subsingleton.elim c 0], fun c => by rw [Subsingleton.elim c 0]⟩

end Cert.Scheds

end
-- ==== Proof.ExpertsRef.lean ====
/- The experts' reference, read pointwise: a used block's rows through the weights at its index, zeros for the others. -/
module

public import proofs.«01_k».proof.Proof.Gen.Reference7Ideal
public import proofs.«01_k».proof.Proof.Gen.Reference7Ideal.Run
public import Idealize.ShloMosaic.Lib.Pipeline.ValueKit
public import Idealize.ShloMosaic.Lib.WordArith

@[expose] public section

set_option maxRecDepth 16384

noncomputable section

open Idealize.ShloMosaic Idealize.ShloMosaic.TcCoe Idealize.SL.Sem
open scoped BigOperators

namespace Cert.Experts

open Cert.Reference7Ideal Cert.Reference7Ideal.Gen

/-- A row times a matrix. -/
def lin (x : Fin 1024 → EReal) (w : Fin 1024 → Fin 256 → EReal) (f : Fin 256) : EReal := ∑ k : Fin 1024, x k * w k f

/-- A row through an expert: gate and up, the gate's activation, down. -/
def through (x : Fin 1024 → EReal) (g u : Fin 1024 → Fin 256 → EReal) (d : Fin 256 → Fin 1024 → EReal) (j : Fin 1024) : EReal :=
  ∑ f : Fin 256, (lin x g f * Ideal.logistic (lin x g f) * lin x u f) * d f j

/-- The dimension numbers of taking whole slices by an index per block. -/
abbrev takeDims (A B : ℕ) (wf : GatherDims.WF ⟨3, ![64, A, B]⟩ ⟨2, ![576, 1]⟩ ⟨3, ![576, A, B]⟩ [1, 2] [0] [] [0] [] 1 ![1, A, B]) :
    GatherDims ⟨3, ![64, A, B]⟩ ⟨2, ![576, 1]⟩ ⟨3, ![576, A, B]⟩ where
  offsetDims := [1, 2]
  collapsedSliceDims := [0]
  operandBatchingDims := []
  startIndicesBatchingDims := []
  startIndexMap := [0]
  indexVectorDim := 1
  sliceSizes := ![1, A, B]
  wf := wf

/-- The slice taken for a block whose index is in range is the one at that index. -/
theorem take_apply {A B : ℕ} (wf) (x : (⟨3, ![64, A, B]⟩ : Shape).Idx → EReal) (idx : IVec ⟨2, ![576, 1]⟩ 32) (b : Fin 576)
    (p : Fin A) (q : Fin B) (e : Fin 64) (he : (idx (ix2 b 0)).toNat = e.val) :
    Host.gather (takeDims A B wf) x idx (ix3 b p q) = x (ix3 e p q) := by
  unfold Host.gather
  refine congrArg x (funext fun a => Fin.ext ?_)
  show (takeDims A B wf).start (ix3 b p q) idx a + (takeDims A B wf).batchCoord (ix3 b p q) a + (takeDims A B wf).offCoord (ix3 b p q) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 3) ∈ [(0 : Fin 3)] from List.mem_singleton.mpr rfl)]
    have hs : (takeDims A B wf).siIdx (ix3 b p q) ⟨List.idxOf (0 : Fin 3) (takeDims A B wf).startIndexMap,
        List.idxOf_lt_length_iff.2 (List.mem_singleton.mpr rfl)⟩ = ix2 b 0 := by
      funext k
      match k with
      | ⟨0, _⟩ => rfl
      | ⟨1, _⟩ => rfl
    refine (congrArg (fun i => min (idx i).toInt.toNat (64 - 1)) hs).trans ?_
    show min (idx (ix2 b 0)).toInt.toNat (64 - 1) = e.val
    have h64 := e.isLt
    rw [BitVec.toInt_eq_toNat_of_lt (by omega)]
    omega
  | ⟨1, _⟩ =>
    unfold GatherDims.start
    rw [dif_neg (by intro h; exact absurd (List.mem_singleton.mp h) (by simp)), Nat.zero_add]
    rfl
  | ⟨2, _⟩ =>
    unfold GatherDims.start
    rw [dif_neg (by intro h; exact absurd (List.mem_singleton.mp h) (by simp)), Nat.zero_add]
    rfl

/-- The blocks' gate or up weights, taken from the first layer's. -/
def taken (w : FVec Ideal S2x64x1024x256 .f32) (be : IVec S576 32) : FVec Ideal S576x1024x256 .f32 :=
  Host.gather gather_S64x1024x256_S576x1_S576x1024x256_12_0_n_n_0_1_11024256
    (shapeCast _ (extractStridedSlice S1x64x1024x256 ![0, 0, 0, 0] w slices_S2x64x1024x256_S1x64x1024x256_0_0_0_0)
      shapeCasts_S1x64x1024x256_S64x1024x256) (broadcastInDim S576x1 ![0] bcast_S576_S576x1_0 be)

/-- The blocks' down weights. -/
def takenD (w : FVec Ideal S2x64x256x1024 .f32) (be : IVec S576 32) : FVec Ideal S576x256x1024 .f32 :=
  Host.gather gather_S64x256x1024_S576x1_S576x256x1024_12_0_n_n_0_1_12561024
    (shapeCast _ (extractStridedSlice S1x64x256x1024 ![0, 0, 0, 0] w slices_S2x64x256x1024_S1x64x256x1024_0_0_0_0)
      shapeCasts_S1x64x256x1024_S64x256x1024) (broadcastInDim S576x1 ![0] bcast_S576_S576x1_0 be)

/-- Every block through its weights. -/
def all (x : FVec Ideal S147456x1024 .f32) (g u : FVec Ideal S576x1024x256 .f32) (d : FVec Ideal S576x256x1024 .f32) :
    FVec Ideal S576x256x1024 .f32 :=
  Host.dotGeneral dot_S576x256x256_S576x256x1024_S576x256x1024_2_1_1_2_0_0 none (mulf (mulf (Host.dotGeneral dot_S576x256x1024_S576x1024x256_S576x256x256_2_1_1_2_0_0 none (shapeCast _ x shapeCasts_S147456x1024_S576x256x1024) g) (Host.divf (broadcastInDim S576x256x256 ![] bcast_S_S576x256x256 (constant S_ .f32 0x3F800000#32)) (addf (broadcastInDim S576x256x256 ![] bcast_S_S576x256x256 (constant S_ .f32 0x3F800000#32)) (Host.exp (Host.negf (Host.dotGeneral dot_S576x256x1024_S576x1024x256_S576x256x256_2_1_1_2_0_0 none (shapeCast _ x shapeCasts_S147456x1024_S576x256x1024) g)))))) (Host.dotGeneral dot_S576x256x1024_S576x1024x256_S576x256x256_2_1_1_2_0_0 none (shapeCast _ x shapeCasts_S147456x1024_S576x256x1024) u)) d

/-- The reference's result: the used blocks, zeros for the others. -/
def out (be : IVec S576 32) (nu : IVec S1 32) (x : FVec Ideal S147456x1024 .f32) (w3 w4 : FVec Ideal S2x64x1024x256 .f32)
    (w5 : FVec Ideal S2x64x256x1024 .f32) : FVec Ideal S147456x1024 .f32 :=
  shapeCast _ (select (broadcastInDim S576x256x1024 ![0, 1, 2] bcast_S576x1x1_S576x256x1024_0_1_2 (broadcastInDim S576x1x1 ![0] bcast_S576_S576x1x1_0 (cmpi .slt (iotaInDim S576 32 0) (broadcastInDim S576 ![] bcast_S_S576 (shapeCast _ nu shapeCasts_S1_S_))))) (all x (taken w3 be) (taken w4 be) (takenD w5 be)) (broadcastInDim S576x256x1024 ![] bcast_S_S576x256x1024 (id (constant S_ .f32 0x00000000#32)))) shapeCasts_S576x256x1024_S147456x1024

theorem taken_apply (w : FVec Ideal S2x64x1024x256 .f32) (be : IVec S576 32) (b : Fin 576) (k : Fin 1024) (f : Fin 256) (e : Fin 64)
    (he : (be (ix1 b)).toNat = e.val) : taken w be (ix3 b k f) = w (ix4 0 e k f) := by
  refine (take_apply (A := 1024) (B := 256) _ _ _ b k f e ?_).trans ?_
  · refine Eq.trans (congrArg BitVec.toNat ?_) he
    pointwise
  · pointwise

theorem takenD_apply (w : FVec Ideal S2x64x256x1024 .f32) (be : IVec S576 32) (b : Fin 576) (f : Fin 256) (j : Fin 1024) (e : Fin 64)
    (he : (be (ix1 b)).toNat = e.val) : takenD w be (ix3 b f j) = w (ix4 0 e f j) := by
  refine (take_apply (A := 256) (B := 1024) _ _ _ b f j e ?_).trans ?_
  · refine Eq.trans (congrArg BitVec.toNat ?_) he
    pointwise
  · pointwise

theorem all_apply (x : FVec Ideal S147456x1024 .f32) (g u : FVec Ideal S576x1024x256 .f32) (d : FVec Ideal S576x256x1024 .f32)
    (b : Fin 576) (r : Fin 256) (j : Fin 1024) :
    all x g u d (ix3 b r j) = through (fun k => x (ix2 (⟨b.val * 256 + r.val, by omega⟩ : Fin 147456) k))
      (fun k f => g (ix3 b k f)) (fun k f => u (ix3 b k f)) (fun f j => d (ix3 b f j)) j := by
  pointwise [all]
  simp only [through, lin, Ideal.logistic]

theorem out_apply (be : IVec S576 32) (nu : IVec S1 32) (x : FVec Ideal S147456x1024 .f32) (w3 w4 : FVec Ideal S2x64x1024x256 .f32)
    (w5 : FVec Ideal S2x64x256x1024 .f32) (i : Fin 147456) (j : Fin 1024) :
    out be nu x w3 w4 w5 (ix2 i j) = if Scalar.cmpi .slt (BitVec.ofNat 32 (i.val / 256)) (nu (ix1 0)) = 1#1 then
      all x (taken w3 be) (taken w4 be) (takenD w5 be) (ix3 (⟨i.val / 256, by omega⟩ : Fin 576) (⟨i.val % 256, by omega⟩ : Fin 256) j)
      else 0 := by
  have z : (id (constant (F := Ideal) S_ FTy.f32 0#32) ix0 : EReal) = 0 := by
    rw [id_eq]
    pointwise
  pointwise [out]
  rw [z]
  rfl

/-- The reference's result at a block's row. -/
theorem out_at (be : IVec S576 32) (nu : IVec S1 32) (x : FVec Ideal S147456x1024 .f32) (w3 w4 : FVec Ideal S2x64x1024x256 .f32)
    (w5 : FVec Ideal S2x64x256x1024 .f32) (b : Fin 576) (r : Fin 256) (j : Fin 1024) (e : Fin 64) (he : (be (ix1 b)).toNat = e.val) :
    out be nu x w3 w4 w5 (ix2 (⟨b.val * 256 + r.val, by omega⟩ : Fin 147456) j)
      = if Scalar.cmpi .slt (BitVec.ofNat 32 b.val) (nu (ix1 0)) = 1#1 then
        through (fun k => x (ix2 (⟨b.val * 256 + r.val, by omega⟩ : Fin 147456) k)) (fun k f => w3 (ix4 0 e k f))
          (fun k f => w4 (ix4 0 e k f)) (fun f j => w5 (ix4 0 e f j)) j
        else 0 := by
  have h1 : (b.val * 256 + r.val) / 256 = b.val := by omega
  have h2 : (b.val * 256 + r.val) % 256 = r.val := by omega
  have e1 : (⟨(b.val * 256 + r.val) / 256, by omega⟩ : Fin 576) = b := Fin.ext h1
  have e2 : (⟨(b.val * 256 + r.val) % 256, by omega⟩ : Fin 256) = r := Fin.ext h2
  rw [out_apply]
  simp only [e1, e2, h1, all_apply]
  have t3 : (fun k f => taken w3 be (ix3 b k f)) = fun k f => w3 (ix4 0 e k f) := funext fun k => funext fun f => taken_apply w3 be b k f e he
  have t4 : (fun k f => taken w4 be (ix3 b k f)) = fun k f => w4 (ix4 0 e k f) := funext fun k => funext fun f => taken_apply w4 be b k f e he
  have t5 : (fun f j => takenD w5 be (ix3 b f j)) = fun f j => w5 (ix4 0 e f j) := funext fun f => funext fun j => takenD_apply w5 be b f j e he
  rw [t3, t4, t5]

theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = out (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.Reference7Ideal.Value.run m ρ

end Cert.Experts
-- ==== Proof.Experts.lean ====
/- What the experts' call computes, over any tables: a used block is its 256 rows through the block's expert, an unused one zeros.
   The expert's weights are held from point to point while the expert stays the same. -/
module

public import proofs.«01_k».proof.Proof.AnyIdeal
public import proofs.«01_k».proof.Proof.ExpertsRef
public import Idealize.ShloMosaic.Lib.Pipeline.ValueKit
public import Idealize.ShloMosaic.Lib.WordArith

@[expose] public section

set_option maxRecDepth 16384

noncomputable section

open Idealize.ShloMosaic Idealize.ShloMosaic.TcCoe Idealize.SL.Sem
open Idealize.ShloMosaic.Pipeline (Dat)
open scoped BigOperators

namespace Cert.Experts

open Cert.Kernel7Ideal Cert.Kernel7Ideal.Gen Cert.Kernel7Ideal.Any

variable (ch : Sched) (m : (ℓ : Loc nD τ sig) → Buf (Elt Ideal) ℓ) (ρ : Dev nD → PrngReg)

theorem idx576 (i j : S576.Idx) (h : (i 0).val = (j 0).val) : i = j :=
  funext fun a => Fin.ext (by obtain rfl : a = 0 := Subsingleton.elim _ _; exact h)

theorem idx1 (i j : S1.Idx) : i = j :=
  funext fun a => Fin.ext (by
    obtain rfl : a = 0 := Subsingleton.elim _ _
    have h0 : (i 0).val < 1 := (i 0).isLt
    have h1 : (j 0).val < 1 := (j 0).isLt
    omega)

/-! ## What a point leaves -/

theorem store0 (inb) (w : S1024x256.Idx → Elt Ideal .bf16) :
    (View.whole cc0_scratch0).writes (Elt Ideal) (View.whole cc0_scratch0).junk [⟨Rect.unit (s := S1024x256) ![0, 0] ![1024, 256] inb, w⟩] = w := by
  have h : View.read (Elt Ideal) (View.whole cc0_scratch0) ((View.whole cc0_scratch0).writes (Elt Ideal) (View.whole cc0_scratch0).junk
      [⟨Rect.unit (s := S1024x256) ![0, 0] ![1024, 256] inb, w⟩]) = w := by
    rw [View.read_writes_junk_eq_canon]
    exact View.canon_cons_unit_lit' inb w [] (by decide)
  have e : ∀ X : (View.whole cc0_scratch0).ty.Contents (Elt Ideal), View.read (Elt Ideal) (View.whole cc0_scratch0) X = X := fun X => rfl
  exact (e _).symm.trans h

theorem store1 (inb) (w : S1024x256.Idx → Elt Ideal .bf16) :
    (View.whole cc0_scratch1).writes (Elt Ideal) (View.whole cc0_scratch1).junk [⟨Rect.unit (s := S1024x256) ![0, 0] ![1024, 256] inb, w⟩] = w := by
  have h : View.read (Elt Ideal) (View.whole cc0_scratch1) ((View.whole cc0_scratch1).writes (Elt Ideal) (View.whole cc0_scratch1).junk
      [⟨Rect.unit (s := S1024x256) ![0, 0] ![1024, 256] inb, w⟩]) = w := by
    rw [View.read_writes_junk_eq_canon]
    exact View.canon_cons_unit_lit' inb w [] (by decide)
  have e : ∀ X : (View.whole cc0_scratch1).ty.Contents (Elt Ideal), View.read (Elt Ideal) (View.whole cc0_scratch1) X = X := fun X => rfl
  exact (e _).symm.trans h

theorem store2 (inb) (w : S256x1024.Idx → Elt Ideal .bf16) :
    (View.whole cc0_scratch2).writes (Elt Ideal) (View.whole cc0_scratch2).junk [⟨Rect.unit (s := S256x1024) ![0, 0] ![256, 1024] inb, w⟩] = w := by
  have h : View.read (Elt Ideal) (View.whole cc0_scratch2) ((View.whole cc0_scratch2).writes (Elt Ideal) (View.whole cc0_scratch2).junk
      [⟨Rect.unit (s := S256x1024) ![0, 0] ![256, 1024] inb, w⟩]) = w := by
    rw [View.read_writes_junk_eq_canon]
    exact View.canon_cons_unit_lit' inb w [] (by decide)
  have e : ∀ X : (View.whole cc0_scratch2).ty.Contents (Elt Ideal), View.read (Elt Ideal) (View.whole cc0_scratch2) X = X := fun X => rfl
  exact (e _).symm.trans h

theorem sA0 (c : Dev nD) (t : Fin (cfgA ch).N) (q0 : P0_0 ch t) :
    (traj0 ch m ρ c t.val t.isLt).2.1 = k0_pay1 (F := Ideal) (iblk ch m ρ c (1 : Fin 5) t) := by
  rw [traj0_eq, step0_A _ _ _ _ _ _ q0]; frame_out
  rw [View.read_rep]
  exact store0 _ _

theorem sA1 (c : Dev nD) (t : Fin (cfgA ch).N) (q0 : P0_0 ch t) :
    (traj0 ch m ρ c t.val t.isLt).2.2.1 = k0_pay2 (F := Ideal) (iblk ch m ρ c (2 : Fin 5) t) := by
  rw [traj0_eq, step0_A _ _ _ _ _ _ q0]; frame_out
  rw [View.read_rep]
  exact store1 _ _

theorem sA2 (c : Dev nD) (t : Fin (cfgA ch).N) (q0 : P0_0 ch t) :
    (traj0 ch m ρ c t.val t.isLt).2.2.2 = k0_pay3 (F := Ideal) (iblk ch m ρ c (3 : Fin 5) t) := by
  rw [traj0_eq, step0_A _ _ _ _ _ _ q0]; frame_out
  rw [View.read_rep]
  exact store2 _ _

theorem oA (c : Dev nD) (t : Fin (cfgA ch).N) (q0 : P0_0 ch t) :
    (traj0 ch m ρ c t.val t.isLt).1 = k0_pay4 (F := Ideal) (iblk ch m ρ c (0 : Fin 5) t) (k0_pay1 (iblk ch m ρ c (1 : Fin 5) t))
      (k0_pay2 (iblk ch m ρ c (2 : Fin 5) t)) (k0_pay3 (iblk ch m ρ c (3 : Fin 5) t)) := by
  rw [traj0_eq, step0_A _ _ _ _ _ _ q0]; frame_out
  rw [View.read_rep, View.read_rep, View.read_rep, View.read_rep]

theorem sB0 (c : Dev nD) (t : Fin (cfgA ch).N) (q0 : ¬P0_0 ch t) (q1 : P0_1 ch t) :
    (traj0 ch m ρ c t.val t.isLt).2 = (prev0 ch m ρ c t).2 := by
  rw [traj0_eq, step0_B _ _ _ _ _ _ q0 q1]; rfl

theorem oB (c : Dev nD) (t : Fin (cfgA ch).N) (q0 : ¬P0_0 ch t) (q1 : P0_1 ch t) :
    (traj0 ch m ρ c t.val t.isLt).1 = k0_pay4 (F := Ideal) (iblk ch m ρ c (0 : Fin 5) t) (prev0 ch m ρ c t).2.1
      (prev0 ch m ρ c t).2.2.1 (prev0 ch m ρ c t).2.2.2 := by
  rw [traj0_eq, step0_B _ _ _ _ _ _ q0 q1]; frame_out
  rw [View.read_rep]; rfl

theorem oC (c : Dev nD) (t : Fin (cfgA ch).N) (q0 : ¬P0_0 ch t) (q1 : ¬P0_1 ch t) :
    (traj0 ch m ρ c t.val t.isLt).1 = k0_pay5 (F := Ideal) := by
  rw [traj0_eq, step0_C _ _ _ _ _ _ q0 q1]; frame_out

/-! ## The tables' words at a point -/

/-- A point as a block number. -/
abbrev blkNo (t : Fin (cfgA ch).N) : Fin 576 := ⟨t.val, t.isLt⟩

/-- The expert of a block. -/
def ex (b : Fin 576) : Fin 64 := ⟨(ch.be (ix1 b)).toNat, ch.hbe _⟩

theorem ofNat_toNat (b : ℕ) (hb : b < 576) : (BitVec.ofNat 32 b).toNat = b := by rw [BitVec.toNat_ofNat]; omega

theorem ofNat_toInt (b : ℕ) (hb : b < 576) : (BitVec.ofNat 32 b).toInt = b := by
  rw [BitVec.toInt_eq_toNat_of_lt (by rw [ofNat_toNat b hb]; omega), ofNat_toNat b hb]

theorem off1_val (t : Fin (cfgA ch).N) : k0_off1 (crd ch t) 0 = t.val := by
  show (BitVec.ofNat 32 ((crd ch t) 0).val).toNat = t.val
  rw [ofNat_toNat _ ((crd ch t) 0).isLt]
  exact crd_val t

theorem off2_val (t : Fin (cfgA ch).N) (h : t.val ≠ 0) : k0_off2 (crd ch t) 0 = t.val - 1 := by
  have ht : ((crd ch t) 0).val = t.val := crd_val t
  have key : ∀ b : Fin 576, b.val ≠ 0 →
      (Scalar.indexCast (Scalar.maxsi (Scalar.subi (BitVec.ofNat 32 b.val) 1#32) 0#32)).toNat = b.val - 1 := by decide +kernel
  show (Scalar.indexCast (Scalar.maxsi (Scalar.subi (BitVec.ofNat 32 ((crd ch t) 0).val) 1#32) 0#32)).toNat = t.val - 1
  rw [ht]
  exact key (blkNo ch t) h

/-- The expert the body reads at a point. -/
theorem word1 (t : Fin (cfgA ch).N) :
    View.readAt (Elt Ideal) (tbM0_0).view (Rect.unit (s := S576) (k0_off1 (crd ch t)) S1.size (k0_off1_inb (crd ch t))).toLoadRect ch.be
      (Shape.Idx.first (numel1_S1.symm ▸ Nat.one_pos)) = ch.be (ix1 (blkNo ch t)) := by
  refine congrArg ch.be (idx576 _ _ ?_)
  show k0_off1 (crd ch t) 0 + 1 * 0 = t.val
  rw [off1_val]; omega

/-- The expert it reads of the point before. -/
theorem word2 (t : Fin (cfgA ch).N) (h : t.val ≠ 0) :
    View.readAt (Elt Ideal) (tbM0_0).view (Rect.unit (s := S576) (k0_off2 (crd ch t)) S1.size (k0_off2_inb (crd ch t))).toLoadRect ch.be
      (Shape.Idx.first (numel1_S1.symm ▸ Nat.one_pos)) = ch.be (ix1 (⟨t.val - 1, lt_of_le_of_lt (Nat.sub_le _ _) t.isLt⟩ : Fin 576)) := by
  refine congrArg ch.be (idx576 _ _ ?_)
  show k0_off2 (crd ch t) 0 + 1 * 0 = t.val - 1
  rw [off2_val ch t h]; omega

/-- A point is used when its number is below the count, signed. -/
theorem used_iff (t : Fin (cfgA ch).N) : P0_1 ch t ↔ Scalar.cmpi .slt (BitVec.ofNat 32 t.val) (ch.nu (ix1 (0 : Fin 1))) = 1#1 := by
  have e : View.readAt (Elt Ideal) (tbM0_1).view (Rect.unit (s := S1) ![0] S1.size inb_S1_S1_0).toLoadRect ch.nu
      (Shape.Idx.first (numel1_S1.symm ▸ Nat.one_pos)) = ch.nu (ix1 (0 : Fin 1)) :=
    congrArg ch.nu (idx1 _ _)
  have ht : ((crd ch t) 0).val = t.val := crd_val t
  refine (cond2_iff _ _).trans ?_
  rw [e, ht]

/-- A used point that takes no expert up has the expert of the point before. -/
theorem ex_prev (t : Fin (cfgA ch).N) (h : t.val ≠ 0) (q0 : ¬P0_0 ch t) (q1 : P0_1 ch t) :
    ch.be (ix1 (blkNo ch t)) = ch.be (ix1 (⟨t.val - 1, lt_of_le_of_lt (Nat.sub_le _ _) t.isLt⟩ : Fin 576)) := by
  by_contra hne
  refine q0 ((bit_ext _).mpr ((bit_and _ _).mpr ⟨(bit_or _ _).mpr (.inr ?_), (cond2_iff _ _).mp q1⟩))
  rw [word1, word2 ch t h]
  show BitVec.ofBool (_ != _) = 1#1
  rw [WordArith.ofBool_eq_one_iff, bne_iff_ne]
  exact hne

/-! ## The blocks -/

theorem index0 (t : Fin (cfgA ch).N) (q1 : P0_1 ch t) : ((cfgA ch).win (0 : Fin 5)).index t = ![t.val, 0] := by
  have ht : ((crd ch t) 0).val = t.val := crd_val t
  have q := (used_iff ch t).mp q1
  have e : (pfN ch).at 1 (Rect.unit (s := S1) ![0] S1.size inb_S1_S1_0) numel1_S1 = ch.nu (ix1 (0 : Fin 1)) :=
    congrArg ch.nu (idx1 _ _)
  have key : (Scalar.maxsi (Scalar.minsi (BitVec.ofNat 32 t.val) (Scalar.subi (ch.nu (ix1 (0 : Fin 1))) 1#32)) 0#32).toNat = t.val := by
    generalize ch.nu (ix1 (0 : Fin 1)) = n at q
    have hb : t.val < 576 := t.isLt
    generalize t.val = b at q hb
    have q' : BitVec.ofBool ((BitVec.ofNat 32 b).slt n) = 1#1 := q
    rw [WordArith.ofBool_eq_one_iff, BitVec.slt_iff_toInt_lt, ofNat_toInt b hb] at q'
    have hn1 : n.toInt < 2 ^ 31 := by have := BitVec.toInt_lt (x := n); simpa using this
    have hn : n.toNat = n.toInt := by
      rw [BitVec.toInt_eq_toNat_cond] at q' hn1 ⊢
      split at q' <;> omega
    have hs : (Scalar.subi n 1#32).toInt = n.toInt - 1 := by
      show (n - 1#32).toInt = _
      rw [BitVec.toInt_sub]
      have : (1#32).toInt = 1 := by decide
      rw [this]
      refine Int.bmod_eq_of_le ?_ ?_ <;> omega
    have e1 : Scalar.minsi (BitVec.ofNat 32 b) (Scalar.subi n 1#32) = BitVec.ofNat 32 b := by
      show (if (BitVec.ofNat 32 b).slt (Scalar.subi n 1#32) then BitVec.ofNat 32 b else Scalar.subi n 1#32) = _
      split
      · rfl
      · next h =>
        rw [BitVec.slt_iff_toInt_lt, hs, ofNat_toInt b hb] at h
        exact BitVec.eq_of_toInt_eq (by rw [hs, ofNat_toInt b hb]; omega)
    rw [e1]
    have e2 : Scalar.maxsi (BitVec.ofNat 32 b) 0#32 = BitVec.ofNat 32 b := by
      have k : ∀ b : Fin 576, Scalar.maxsi (BitVec.ofNat 32 b.val) 0#32 = BitVec.ofNat 32 b.val := by decide +kernel
      exact k ⟨b, hb⟩
    rw [e2, ofNat_toNat b hb]
  show ![(Scalar.maxsi (Scalar.minsi (BitVec.ofNat 32 ((crd ch t) 0).val) (Scalar.subi ((pfN ch).at 1 (Rect.unit (s := S1) ![0] S1.size inb_S1_S1_0) numel1_S1) 1#32)) 0#32).toNat, 0] = ![t.val, 0]
  rw [e, ht, key]

theorem be_at (t : Fin (cfgA ch).N) :
    ((pfN ch).at 0 (Rect.unit (s := S576) ![(Scalar.indexCast (BitVec.ofNat 32 ((crd ch t) 0).val)).toNat] S1.size (k0_off1_inb (crd ch t))) numel1_S1).toNat
      = (ex ch (blkNo ch t)).val := by
  refine congrArg (fun i => (ch.be i).toNat) (idx576 _ _ ?_)
  show k0_off1 (crd ch t) 0 + 1 * 0 = t.val
  rw [off1_val]; omega

theorem index1 (t : Fin (cfgA ch).N) : ((cfgA ch).win (1 : Fin 5)).index t = ![0, (ex ch (blkNo ch t)).val, 0, 0] := by
  rw [← be_at]; rfl
theorem index2 (t : Fin (cfgA ch).N) : ((cfgA ch).win (2 : Fin 5)).index t = ![0, (ex ch (blkNo ch t)).val, 0, 0] := by
  rw [← be_at]; rfl
theorem index3 (t : Fin (cfgA ch).N) : ((cfgA ch).win (3 : Fin 5)).index t = ![0, (ex ch (blkNo ch t)).val, 0, 0] := by
  rw [← be_at]; rfl
theorem index4 (t : Fin (cfgA ch).N) : ((cfgA ch).win (4 : Fin 5)).index t = ![t.val, 0] := by
  have e : (BitVec.ofNat 32 ((crd ch t) 0).val).toNat = t.val := off1_val ch t
  show ![(BitVec.ofNat 32 ((crd ch t) 0).val).toNat, 0] = ![t.val, 0]
  rw [e]

/-- An expert's weights, as blocks of the whole arrays. -/
def wg (c : Dev nD) (e : Fin 64) : Vec Ideal S1x1x1024x256 .f32 := fun y =>
  m ((c : Thread nD τ).loc main_arg3) (ix4 (0 : Fin 2) e (y 2 : Fin 1024) (y 3 : Fin 256))
def wu (c : Dev nD) (e : Fin 64) : Vec Ideal S1x1x1024x256 .f32 := fun y =>
  m ((c : Thread nD τ).loc main_arg4) (ix4 (0 : Fin 2) e (y 2 : Fin 1024) (y 3 : Fin 256))
def wd (c : Dev nD) (e : Fin 64) : Vec Ideal S1x1x256x1024 .f32 := fun y =>
  m ((c : Thread nD τ).loc main_arg5) (ix4 (0 : Fin 2) e (y 2 : Fin 256) (y 3 : Fin 1024))

theorem blk0 (c : Dev nD) (t : Fin (cfgA ch).N) (q1 : P0_1 ch t) (r : Fin 256) (k : Fin 1024) :
    (iblk ch m ρ c (0 : Fin 5) t : Vec Ideal S256x1024 .f32) (ix2 r k)
      = m ((c : Thread nD τ).loc main_arg2) (ix2 (⟨256 * t.val + r.val, by have : t.val < 576 := t.isLt; omega⟩ : Fin 147456) k) := by
  blk_point [iblk, index0 ch t q1]

theorem blk1 (c : Dev nD) (t : Fin (cfgA ch).N) :
    (iblk ch m ρ c (1 : Fin 5) t : Vec Ideal S1x1x1024x256 .f32) = wg m c (ex ch (blkNo ch t)) := by
  funext y
  have h0 : (y 0 : ℕ) < 1 := (y 0).isLt
  have h1 : (y 1 : ℕ) < 1 := (y 1).isLt
  unfold wg
  blk_point [iblk, index1 ch t]

theorem blk2 (c : Dev nD) (t : Fin (cfgA ch).N) :
    (iblk ch m ρ c (2 : Fin 5) t : Vec Ideal S1x1x1024x256 .f32) = wu m c (ex ch (blkNo ch t)) := by
  funext y
  have h0 : (y 0 : ℕ) < 1 := (y 0).isLt
  have h1 : (y 1 : ℕ) < 1 := (y 1).isLt
  unfold wu
  blk_point [iblk, index2 ch t]

theorem blk3 (c : Dev nD) (t : Fin (cfgA ch).N) :
    (iblk ch m ρ c (3 : Fin 5) t : Vec Ideal S1x1x256x1024 .f32) = wd m c (ex ch (blkNo ch t)) := by
  funext y
  have h0 : (y 0 : ℕ) < 1 := (y 0).isLt
  have h1 : (y 1 : ℕ) < 1 := (y 1).isLt
  unfold wd
  blk_point [iblk, index3 ch t]

/-! ## The held weights -/

/-- The weights of expert `e` are held after point `n`. -/
def Holds (c : Dev nD) (n : ℕ) (hn : n < (cfgA ch).N) (e : Fin 64) : Prop :=
  (traj0 ch m ρ c n hn).2.1 = k0_pay1 (F := Ideal) (wg m c e) ∧ (traj0 ch m ρ c n hn).2.2.1 = k0_pay2 (F := Ideal) (wu m c e)
    ∧ (traj0 ch m ρ c n hn).2.2.2 = k0_pay3 (F := Ideal) (wd m c e)

theorem heldA (c : Dev nD) (t : Fin (cfgA ch).N) (q0 : P0_0 ch t) : Holds ch m ρ c t.val t.isLt (ex ch (blkNo ch t)) := by
  refine ⟨(sA0 ch m ρ c t q0).trans ?_, (sA1 ch m ρ c t q0).trans ?_, (sA2 ch m ρ c t q0).trans ?_⟩
  · rw [blk1]
  · rw [blk2]
  · rw [blk3]

theorem heldB (c : Dev nD) (n : ℕ) (hn : n + 1 < (cfgA ch).N) (q0 : ¬P0_0 ch ⟨n + 1, hn⟩) (q1 : P0_1 ch ⟨n + 1, hn⟩) :
    (traj0 ch m ρ c (n + 1) hn).2 = (traj0 ch m ρ c n (Nat.lt_of_succ_lt hn)).2 := by
  have h := sB0 ch m ρ c ⟨n + 1, hn⟩ q0 q1
  unfold prev0 at h
  rw [dif_neg (Nat.succ_ne_zero n)] at h
  exact h

theorem held (c : Dev nD) (n : ℕ) : ∀ (hn : n < (cfgA ch).N), P0_1 ch ⟨n, hn⟩ →
    Holds ch m ρ c n hn (ex ch (blkNo ch ⟨n, hn⟩)) := by
  induction n with
  | zero => exact fun hn q1 => heldA ch m ρ c ⟨0, hn⟩ (A_of_zero ch ⟨0, hn⟩ (crd_val ⟨0, hn⟩) q1)
  | succ n ih =>
    intro hn q1
    by_cases q0 : P0_0 ch ⟨n + 1, hn⟩
    · exact heldA ch m ρ c ⟨n + 1, hn⟩ q0
    · have hn' : n < (cfgA ch).N := Nat.lt_of_succ_lt hn
      have e : ex ch (blkNo ch ⟨n + 1, hn⟩) = ex ch (blkNo ch ⟨n, hn'⟩) :=
        Fin.ext (by
          show (ch.be (ix1 (blkNo ch ⟨n + 1, hn⟩))).toNat = (ch.be (ix1 (blkNo ch ⟨n, hn'⟩))).toNat
          rw [ex_prev ch ⟨n + 1, hn⟩ (Nat.succ_ne_zero n) q0 q1]
          rfl)
      have hh := ih hn' (used_mono ch ⟨n, hn'⟩ ⟨n + 1, hn⟩ (Nat.le_succ n) q1)
      rw [e]
      unfold Holds at hh ⊢
      rw [heldB ch m ρ c n hn q0 q1]
      exact hh

/-- What a used point leaves. -/
theorem used_out (c : Dev nD) (t : Fin (cfgA ch).N) (q1 : P0_1 ch t) :
    (traj0 ch m ρ c t.val t.isLt).1 = k0_pay4 (F := Ideal) (iblk ch m ρ c (0 : Fin 5) t) (k0_pay1 (wg m c (ex ch (blkNo ch t))))
      (k0_pay2 (wu m c (ex ch (blkNo ch t)))) (k0_pay3 (wd m c (ex ch (blkNo ch t)))) := by
  by_cases q0 : P0_0 ch t
  · rw [oA ch m ρ c t q0, blk1, blk2, blk3]
  · obtain ⟨h0, h1, h2⟩ := held ch m ρ c t.val t.isLt q1
    rw [oB ch m ρ c t q0 q1, ← sB0 ch m ρ c t q0 q1, h0, h1, h2]

/-! ## The values -/

theorem pay4_apply (x : Vec Ideal S256x1024 .f32) (a b : Vec Ideal S1x1x1024x256 .f32) (d : Vec Ideal S1x1x256x1024 .f32)
    (r : Fin 256) (j : Fin 1024) :
    k0_pay4 (F := Ideal) x (k0_pay1 a) (k0_pay2 b) (k0_pay3 d) (ix2 r j)
      = through (fun k => x (ix2 r k)) (fun k f => a (ix4 0 0 k f)) (fun k f => b (ix4 0 0 k f)) (fun f j => d (ix4 0 0 f j)) j := by
  pointwise [k0_pay4, k0_pay1, k0_pay2, k0_pay3]
  simp only [through, lin]

theorem pay5_apply (r : Fin 256) (j : Fin 1024) : k0_pay5 (F := Ideal) (ix2 r j) = 0 := by
  pointwise [k0_pay5]

/-! ## The result -/

theorem row4 (c : Dev nD) (t : Fin (cfgA ch).N) (r : Fin 256) (j : Fin 1024) :
    (traj0 ch m ρ c t.val t.isLt).1 (ix2 r j) = if Scalar.cmpi .slt (BitVec.ofNat 32 t.val) (ch.nu (ix1 (0 : Fin 1))) = 1#1 then
      through (fun k => m ((c : Thread nD τ).loc main_arg2) (ix2 (⟨t.val * 256 + r.val, by have : t.val < 576 := t.isLt; omega⟩ : Fin 147456) k))
        (fun k f => m ((c : Thread nD τ).loc main_arg3) (ix4 (0 : Fin 2) (ex ch (blkNo ch t)) k f))
        (fun k f => m ((c : Thread nD τ).loc main_arg4) (ix4 (0 : Fin 2) (ex ch (blkNo ch t)) k f))
        (fun f j => m ((c : Thread nD τ).loc main_arg5) (ix4 (0 : Fin 2) (ex ch (blkNo ch t)) f j)) j
      else 0 := by
  by_cases q1 : P0_1 ch t
  · rw [if_pos ((used_iff ch t).mp q1), used_out ch m ρ c t q1, pay4_apply]
    have hx : (fun k => (iblk ch m ρ c (0 : Fin 5) t : Vec Ideal S256x1024 .f32) (ix2 r k))
        = fun k => m ((c : Thread nD τ).loc main_arg2) (ix2 (⟨t.val * 256 + r.val, by have : t.val < 576 := t.isLt; omega⟩ : Fin 147456) k) :=
      funext fun k => (blk0 ch m ρ c t q1 r k).trans (congrArg (fun i => m ((c : Thread nD τ).loc main_arg2) (ix2 i k)) (Fin.ext (by
        show 256 * t.val + r.val = t.val * 256 + r.val; omega)))
    rw [hx]
    rfl
  · have q0 : ¬P0_0 ch t := fun q0 => q1 (used_of_A ch t q0)
    rw [if_neg (fun h => q1 ((used_iff ch t).mpr h)), oC ch m ρ c t q0 q1, pay5_apply]

/-- The call's array is the reference's result of the tables and the arguments. -/
theorem final (c : Dev nD) : (dats ch m ρ 0 c).arrAt (4 : Fin 5) (cfgA ch).N
    = out ch.be ch.nu (m ((c : Thread nD τ).loc main_arg2)) (m ((c : Thread nD τ).loc main_arg3)) (m ((c : Thread nD τ).loc main_arg4))
      (m ((c : Thread nD τ).loc main_arg5)) := by
  refine (dats ch m ρ 0 c).arrAt_eq_of_emb (4 : Fin 5) _ (fun t _ y => ?_) (fun i => ?_)
  · have ht : t.val < 576 := t.isLt
    have hy0 : (y 0 : ℕ) < 256 := (y 0).isLt
    have e : (((cfgA ch).win (4 : Fin 5)).blk t).view.emb y
        = ix2 (⟨t.val * 256 + (y 0 : ℕ), by omega⟩ : Fin 147456) (y 1 : Fin 1024) := by blk_ext [index4 ch t]
    have ey : y = ix2 (y 0 : Fin 256) (y 1 : Fin 1024) := by blk_ext
    rw [e]
    blk_simp; rw [after0_4]
    conv_lhs => rw [ey]
    exact (row4 ch m ρ c t (y 0 : Fin 256) (y 1 : Fin 1024)).trans (out_at ch.be ch.nu _ _ _ _ (blkNo ch t) (y 0 : Fin 256) (y 1 : Fin 1024) (ex ch (blkNo ch t)) rfl).symm
  · have hi : (i 0 : ℕ) < 147456 := (i 0).isLt
    refine ⟨⟨(i 0 : ℕ) / 256, by show (i 0 : ℕ) / 256 < 576; omega⟩, out_flush ch _, ?_⟩
    have h1 : (i 1 : ℕ) < 1024 := (i 1).isLt
    mem_blk [index4 ch]
    exact ⟨⟨Nat.div_mul_le_self _ _, by show (i 0 : ℕ) < (i 0 : ℕ) / 256 * 256 + 256; omega⟩, Nat.zero_le _, h1⟩

theorem run (hp : Pinned ch m) :
    θ_run defs (onTc (τ := τ) (main (F := Ideal))) ⟨m, fun _ => 0, ρ⟩ (fun r => ∀ c : Dev nD,
      r.2.mem ((c.tc : Thread nD τ).loc main_v0) = (dats ch m ρ 0 c).arrAt (4 : Fin 5) (cfgA ch).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 (4 : Fin 5), h.2 c⟩)
    (θ_run_and (run_main ch m ρ hp) (unchanged ch m ρ hp))

end Cert.Experts
-- ==== Proof.Pinned.lean ====
/- What the two preconditions say of the launch memory: the block tables hold the causal pairs the generated frame of the
   attention is written for. -/
module

public import proofs.«01_k».proof.Defs
public import proofs.«01_k».proof.Proof.Gen.Pre_tables
public import proofs.«01_k».proof.Proof.Gen.Pre_tables_and_bias
public import proofs.«01_k».proof.Proof.Gen.Kernel.Flash.Pins
public import proofs.«01_k».proof.Proof.Gen.KernelIdeal.Flash.Pins
public import Idealize.ShloMosaic.Lib.ReduceAll
public import Idealize.ShloMosaic.Lib.WordArith

@[expose] public section

set_option maxRecDepth 16384

noncomputable section

open Idealize.ShloMosaic
open Idealize.ShloMosaic.TcCoe

namespace Cert.Pinned

/-- A comparison for equality of two integer arrays that holds everywhere says the arrays are equal. -/
theorem eq_of_all {s t u : Shape} {axes : List (Fin s.rank)} {w : Nat} [Subsingleton t.Idx] (x y : IVec s w) (init : u.Idx → BitVec 1)
    (h : s.ReducesTo axes t) (hu : 0 < u.numel) (j : t.Idx)
    (e : Host.reduce IntOp.andi (cmpi .eq x y) init h hu j = 1#1) : x = y := by
  funext i
  have e1 := Host.reduce_andi_all _ _ h hu j e i
  have e2 : BitVec.ofBool (x i == y i) = 1#1 := e1
  rwa [WordArith.ofBool_eq_one_iff, beq_iff_eq] at e2

instance : Subsingleton Cert.Pre_tables.S_.Idx := ⟨fun a b => funext fun k => k.elim0⟩
instance : Subsingleton Cert.Pre_tables_and_bias.S_.Idx := ⟨fun a b => funext fun k => k.elim0⟩

variable {F : FTy → Type} [FloatOps F]

/-- The predicate on the tables, opened: both tables are the listed words. -/
theorem tables_of_fn (a0 a1 : IVec Cert.Pre_tables.S136 32) (a2 a3 a4 : FVec F Cert.Pre_tables.S16384x512 .f32)
    (a5 : FVec F Cert.Pre_tables.S3x4x256x256 .f32) (a6 : FVec F Cert.Pre_tables.S4x64 .f32) (a7 : FVec F Cert.Pre_tables.S128x1 .f32)
    (h : Cert.Pre_tables.fn a0 a1 a2 a3 a4 a5 a6 a7 = fun _ => 1#1) :
    a0 = (fun i => Cert.Pre_tables.lit0 (Cert.Pre_tables.S136.rowMajor i))
    ∧ a1 = (fun i => Cert.Pre_tables.lit1 (Cert.Pre_tables.S136.rowMajor i)) := by
  have e := congrFun h (fun k => k.elim0)
  have e2 := IntOp.andi_eq_one.1 e
  exact ⟨eq_of_all _ _ _ _ _ _ e2.1, eq_of_all _ _ _ _ _ _ e2.2⟩

theorem kernel_table0 : (fun i => Cert.Pre_tables.lit0 (Cert.Pre_tables.S136.rowMajor i)) = Cert.Kernel.Gen.pinT_0 0 := by
  have h : ∀ k : Fin 136, Cert.Pre_tables.lit0 k = Cert.Kernel.Gen.pinT_0 0 (fun | ⟨0, _⟩ => k) := by decide +kernel
  funext i
  have e : Cert.Pre_tables.S136.rowMajor i = i 0 := Fin.ext (Shape.rowMajor_val_one i)
  exact (congrArg _ e).trans (h (i 0))

theorem kernel_table1 : (fun i => Cert.Pre_tables.lit1 (Cert.Pre_tables.S136.rowMajor i)) = Cert.Kernel.Gen.pinT_1 0 := by
  have h : ∀ k : Fin 136, Cert.Pre_tables.lit1 k = Cert.Kernel.Gen.pinT_1 0 (fun | ⟨0, _⟩ => k) := by decide +kernel
  funext i
  have e : Cert.Pre_tables.S136.rowMajor i = i 0 := Fin.ext (Shape.rowMajor_val_one i)
  exact (congrArg _ e).trans (h (i 0))

theorem ideal_table0 : (fun i => Cert.Pre_tables_and_bias.lit1 (Cert.Pre_tables_and_bias.S136.rowMajor i)) = Cert.KernelIdeal.Gen.pinT_0 0 := by
  have h : ∀ k : Fin 136, Cert.Pre_tables_and_bias.lit1 k = Cert.KernelIdeal.Gen.pinT_0 0 (fun | ⟨0, _⟩ => k) := by decide +kernel
  funext i
  have e : Cert.Pre_tables_and_bias.S136.rowMajor i = i 0 := Fin.ext (Shape.rowMajor_val_one i)
  exact (congrArg _ e).trans (h (i 0))

theorem ideal_table1 : (fun i => Cert.Pre_tables_and_bias.lit2 (Cert.Pre_tables_and_bias.S136.rowMajor i)) = Cert.KernelIdeal.Gen.pinT_1 0 := by
  have h : ∀ k : Fin 136, Cert.Pre_tables_and_bias.lit2 k = Cert.KernelIdeal.Gen.pinT_1 0 (fun | ⟨0, _⟩ => k) := by decide +kernel
  funext i
  have e : Cert.Pre_tables_and_bias.S136.rowMajor i = i 0 := Fin.ext (Shape.rowMajor_val_one i)
  exact (congrArg _ e).trans (h (i 0))

attribute [local instance] Cert.Pre_tables.Gen.facts Cert.Pre_tables_and_bias.Gen.facts

theorem kernel_pinned (m : (ℓ : Loc Cert.Kernel.nD Cert.Kernel.τ Cert.Kernel.sig) → Buf (Elt Bits) ℓ) (h : Cert.Pre_Kernel m) :
    Cert.Kernel.Gen.Pinned 0 m := by
  refine ⟨fun c => ?_, fun c => ?_⟩
  · exact (tables_of_fn _ _ _ _ _ _ _ _ (h c)).1.trans kernel_table0
  · exact (tables_of_fn _ _ _ _ _ _ _ _ (h c)).2.trans kernel_table1

theorem ideal_pinned (m : (ℓ : Loc Cert.KernelIdeal.nD Cert.KernelIdeal.τ Cert.KernelIdeal.sig) → Buf (Elt Ideal) ℓ)
    (h : Cert.Pre_KernelIdeal m) : Cert.KernelIdeal.Gen.Pinned 0 m := by
  refine ⟨fun c => ?_, fun c => ?_⟩
  · exact (tables_of_fn _ _ _ _ _ _ _ _ (h c)).1.trans kernel_table0
  · exact (tables_of_fn _ _ _ _ _ _ _ _ (h c)).2.trans kernel_table1

section Bias
open Cert.Pre_tables_and_bias Cert.Pre_tables_and_bias.Facts

/-- The bucket of each distance of an array of positions' differences, as the relative-position bias takes it. -/
def bucket (dist : IVec S256x256 32) : IVec S256x256 32 :=
  fn_where (F := F) (cmpi .slt dist (broadcastInDim S256x256 ![] bcast_S_S256x256 (constantI S_ 32 16#32))) dist
    (minsi (addi (broadcastInDim S256x256 ![] bcast_S_S256x256 (constantI S_ 32 16#32))
      (fptosi (F := F) 32 (mulf (Host.divf (Host.log (Host.divf
          (sitofp .f32 (maxsi dist (broadcastInDim S256x256 ![] bcast_S_S256x256 (constantI S_ 32 1#32))))
          (broadcastInDim S256x256 ![] bcast_S_S256x256 (constant S_ .f32 0x41800000#32))))
        (broadcastInDim S256x256 ![] bcast_S_S256x256 (constant S_ .f32 0x40051592#32)))
        (broadcastInDim S256x256 ![] bcast_S_S256x256 (constant S_ .f32 0x41800000#32)))))
      (broadcastInDim S256x256 ![] bcast_S_S256x256 (constantI S_ 32 31#32)))

/-- The distances of the query positions `off + i` from the key positions `j`, none below 0. -/
def dist (off : BitVec 32) : IVec S256x256 32 :=
  maxsi (subi
      (broadcastInDim S256x256 ![0, 1] bcast_S256x1_S256x256_0_1 (broadcastInDim S256x1 ![0] bcast_S256_S256x1_0
        (addi (broadcastInDim S256 ![] bcast_S_S256 (constantI S_ 32 off)) (iotaInDim S256 32 0))))
      (broadcastInDim S256x256 ![0, 1] bcast_S1x256_S256x256_0_1 (broadcastInDim S1x256 ![1] bcast_S256_S1x256_1 (iotaInDim S256 32 0))))
    (broadcastInDim S256x256 ![] bcast_S_S256x256 (constantI S_ 32 0#32))

/-- The bias tile of an array of distances, from the table: heads, then keys down, then queries across. -/
def tile (table : FVec F S32x4 .f32) (d : IVec S256x256 32) : FVec F S4x256x256 .f32 :=
  transpose S4x256x256 [0, 2, 1] (transpose S4x256x256 [2, 0, 1]
    (Host.gather gather_S32x4_S256x256x1_S256x256x4_2_0_n_n_0_2_14 table
      (broadcastInDim S256x256x1 ![0, 1] bcast_S256x256_S256x256x1_0_1
        (select (cmpi .slt (bucket (F := F) d) (broadcastInDim S256x256 ![] bcast_S_S256x256 (constantI S_ 32 0#32)))
          (addi (bucket (F := F) d) (broadcastInDim S256x256 ![] bcast_S_S256x256 (constantI S_ 32 32#32))) (bucket (F := F) d))))
    transposes_S256x256x4_S4x256x256_2_0_1) transposes_S4x256x256_S4x256x256_0_2_1

/-- The three tiles one behind the other. -/
def tiles (table : FVec F S32x4 .f32) : FVec F S3x4x256x256 .f32 :=
  concatenate S3x4x256x256 0
    [⟨S1x4x256x256, broadcastInDim S1x4x256x256 ![1, 2, 3] bcast_S4x256x256_S1x4x256x256_1_2_3 (tile table (dist 0#32))⟩,
     ⟨S1x4x256x256, broadcastInDim S1x4x256x256 ![1, 2, 3] bcast_S4x256x256_S1x4x256x256_1_2_3 (tile table (dist 256#32))⟩,
     ⟨S1x4x256x256, broadcastInDim S1x4x256x256 ![1, 2, 3] bcast_S4x256x256_S1x4x256x256_1_2_3 (tile table (dist 512#32))⟩]
    concatenates_S1x4x256x256_S1x4x256x256_S1x4x256x256_S3x4x256x256_d0

/-- The table read off the first tile, as both the precondition and the reference read it. -/
def table (a5 : FVec F S3x4x256x256 .f32) : FVec F S32x4 .f32 :=
  fn_take (F := F) (transpose S256x4 [1, 0] (shapeCast S4x256
    (extractStridedSlice S1x4x1x256 ![0, 0, 0, 0] a5 slices_S3x4x256x256_S1x4x1x256_0_0_0_0) shapeCasts_S1x4x1x256_S4x256)
    transposes_S4x256_S256x4_1_0) (fun i => lit0 (S32.rowMajor i))

/-- The predicate is the conjunction of its five parts. -/
theorem fn_eq (a0 a1 : IVec S136 32) (a2 a3 a4 : FVec F S16384x512 .f32)
    (a5 : FVec F S3x4x256x256 .f32) (a6 : FVec F S4x64 .f32) (a7 : FVec F S128x1 .f32) :
    fn a0 a1 a2 a3 a4 a5 a6 a7 =
      andi (andi (andi (andi
        (Host.reduce IntOp.andi (cmpi .eq a0 (fun i => lit1 (S136.rowMajor i))) (constantI S_ 1 1#1) reducesTo_S136_S_d0 h_S_)
        (Host.reduce IntOp.andi (cmpi .eq a1 (fun i => lit2 (S136.rowMajor i))) (constantI S_ 1 1#1) reducesTo_S136_S_d0 h_S_))
        (Host.reduce IntOp.andi (cmpf .oeq a5 (tiles (table a5))) (constantI S_ 1 1#1) reducesTo_S3x4x256x256_S_d0_1_2_3 h_S_))
        (Host.reduce IntOp.andi (cmpf .olt (Host.absf a4) (broadcastInDim S16384x512 ![] bcast_S_S16384x512 (constant S_ .f32 0x7F800000#32)))
          (constantI S_ 1 1#1) reducesTo_S16384x512_S_d0_1 h_S_))
        (Host.reduce IntOp.andi (cmpf .olt (Host.absf a6) (broadcastInDim S4x64 ![] bcast_S_S4x64 (constant S_ .f32 0x7F800000#32)))
          (constantI S_ 1 1#1) reducesTo_S4x64_S_d0_1 h_S_) := rfl

end Bias

/-- What the precondition of the value claim says of one core's arrays. -/
structure Holds (a0 a1 : IVec Cert.Pre_tables_and_bias.S136 32) (v : FVec Ideal Cert.Pre_tables_and_bias.S16384x512 .f32)
    (bias : FVec Ideal Cert.Pre_tables_and_bias.S3x4x256x256 .f32) (lam : FVec Ideal Cert.Pre_tables_and_bias.S4x64 .f32) : Prop where
  qi : a0 = Cert.KernelIdeal.Gen.pinT_0 0
  kj : a1 = Cert.KernelIdeal.Gen.pinT_1 0
  bias : ∀ i, bias i = tiles (F := Ideal) (table bias) i
  v : ∀ i, v i ≠ ⊤ ∧ v i ≠ ⊥
  lam : ∀ i, lam i ≠ ⊤ ∧ lam i ≠ ⊥

/-- A finite extended real, from the printed test. -/
theorem finite_of_cmpf (x : EReal) (h : Ideal.cmp .olt (max x (-x)) (Ideal.ofBits .f32 0x7F800000#32) = 1#1) : x ≠ ⊤ ∧ x ≠ ⊥ := by
  have ht : Ideal.ofBits .f32 0x7F800000#32 = ⊤ := by simp [Ideal.ofBits, Ideal.ieee]
  rw [ht] at h
  have h2 : max x (-x) < ⊤ := by
    have e : BitVec.ofBool (decide (max x (-x) < ⊤)) = 1#1 := h
    rwa [WordArith.ofBool_eq_one_iff, decide_eq_true_eq] at e
  constructor
  · rintro rfl; simp at h2
  · rintro rfl; simp at h2

theorem holds_of_fn (a0 a1 : IVec Cert.Pre_tables_and_bias.S136 32) (a2 a3 a4 : FVec Ideal Cert.Pre_tables_and_bias.S16384x512 .f32)
    (a5 : FVec Ideal Cert.Pre_tables_and_bias.S3x4x256x256 .f32) (a6 : FVec Ideal Cert.Pre_tables_and_bias.S4x64 .f32)
    (a7 : FVec Ideal Cert.Pre_tables_and_bias.S128x1 .f32)
    (h : Cert.Pre_tables_and_bias.fn a0 a1 a2 a3 a4 a5 a6 a7 = fun _ => 1#1) : Holds a0 a1 a4 a5 a6 := by
  rw [fn_eq] at h
  have e := congrFun h (fun k => k.elim0)
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  refine ⟨(eq_of_all _ _ _ _ _ _ e1).trans ideal_table0, (eq_of_all _ _ _ _ _ _ e2).trans ideal_table1, fun i => ?_, fun i => ?_, fun i => ?_⟩
  · have e : BitVec.ofBool (decide (a5 i = tiles (F := Ideal) (table a5) i)) = 1#1 := Host.reduce_andi_all _ _ _ _ _ e3 i
    rwa [WordArith.ofBool_eq_one_iff, decide_eq_true_eq] at e
  · exact finite_of_cmpf _ (Host.reduce_andi_all _ _ _ _ _ e4 i)
  · exact finite_of_cmpf _ (Host.reduce_andi_all _ _ _ _ _ e5 i)

end Cert.Pinned

end
-- ==== Proof.InProj.lean ====
/-
  What the input projection computes (16384 rows, 64 row blocks of 256): each of its eight result arrays is the matching column
  slice of `x · w`. One row block of `x` is multiplied with the columns of one result at a time; the last result, the gates,
  is written in six stores of 512 columns. The weights are cast on the host, which over the reals changes nothing.
-/
module

public import proofs.«01_k».proof.Proof.Gen.Kernel2Ideal
public import proofs.«01_k».proof.Proof.Gen.Kernel2Ideal.Value
public import proofs.«01_k».proof.Proof.Gen.Reference2Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProj

open Cert.Kernel2Ideal Cert.Kernel2Ideal.Gen

variable (m : (ℓ : Loc nD τ sig) → Buf (Elt Ideal) ℓ)

/-- The whole product `x · w`, as the reference states it. -/
abbrev prod (x : FVec Ideal Cert.Reference2Ideal.S16384x1024 .f32) (w : FVec Ideal Cert.Reference2Ideal.S1024x5888 .f32) :
    FVec Ideal Cert.Reference2Ideal.S16384x5888 .f32 :=
  Host.dotGeneral Cert.Reference2Ideal.dot_S16384x1024_S1024x5888_S16384x5888_1_0_0_1_n_n none x w

/-- The block every window reads or writes at every grid point: row block `t`, or the whole of the weights. -/
theorem idx : ∀ t : Fin cfg0.N, win0_0.index t = ![t.val, 0] ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0] :=
  (by decide +kernel : ∀ t : Fin grid0.N, _)

/-- Columns 0 to 255 of row block `t`: the stored product is the reference's at the same place. -/
theorem point2 (c : Dev nD) (t : Fin cfg0.N) (y) :
    k0_pay4 (iblk m c 0 t) (View.ld (iblk m c 1 t) r0_1) y
      = (extractStridedSlice Cert.Reference2Ideal.S16384x256 ![0, 0] (prod (m ((c : Thread nD τ).loc main_arg0)) (m ((c : Thread nD τ).loc main_arg1)))
        Cert.Reference2Ideal.Gen.slices_S16384x5888_S16384x256_0_0)
          (((cfg0.win 2).blk t).view.emb y) := by
  pointwise [k0_pay4, prod]; blk_point [iblk, V, idx t]

/-- Result 1 after the run. -/
theorem final2 (c : Dev nD) : (dats m 0 c).arrAt 2 (cfgs 0).N
      = extractStridedSlice Cert.Reference2Ideal.S16384x256 ![0, 0] (prod (m ((c : Thread nD τ).loc main_arg0)) (m ((c : Thread nD τ).loc main_arg1)))
        Cert.Reference2Ideal.Gen.slices_S16384x5888_S16384x256_0_0 := by
  refine (dats m 0 c).arrAt_eq_of_covers 2 _ (by decide +kernel) fun t _ y => ?_
  blk_simp; rw [after0_2]; frame_out
  exact point2 m c t y

/-- Columns 256 to 511 of row block `t`: the stored product is the reference's at the same place. -/
theorem point3 (c : Dev nD) (t : Fin cfg0.N) (y) :
    k0_pay5 (iblk m c 0 t) (View.ld (iblk m c 1 t) r0_3) y
      = (extractStridedSlice Cert.Reference2Ideal.S16384x256 ![0, 256] (prod (m ((c : Thread nD τ).loc main_arg0)) (m ((c : Thread nD τ).loc main_arg1)))
        Cert.Reference2Ideal.Gen.slices_S16384x5888_S16384x256_0_256)
          (((cfg0.win 3).blk t).view.emb y) := by
  pointwise [k0_pay5, prod]; blk_point [iblk, V, idx t]

/-- Result 2 after the run. -/
theorem final3 (c : Dev nD) : (dats m 0 c).arrAt 3 (cfgs 0).N
      = extractStridedSlice Cert.Reference2Ideal.S16384x256 ![0, 256] (prod (m ((c : Thread nD τ).loc main_arg0)) (m ((c : Thread nD τ).loc main_arg1)))
        Cert.Reference2Ideal.Gen.slices_S16384x5888_S16384x256_0_256 := by
  refine (dats m 0 c).arrAt_eq_of_covers 3 _ (by decide +kernel) fun t _ y => ?_
  blk_simp; rw [after0_3]; frame_out
  exact point3 m c t y

/-- Columns 512 to 767 of row block `t`: the stored product is the reference's at the same place. -/
theorem point4 (c : Dev nD) (t : Fin cfg0.N) (y) :
    k0_pay6 (iblk m c 0 t) (View.ld (iblk m c 1 t) r0_4) y
      = (extractStridedSlice Cert.Reference2Ideal.S16384x256 ![0, 512] (prod (m ((c : Thread nD τ).loc main_arg0)) (m ((c : Thread nD τ).loc main_arg1)))
        Cert.Reference2Ideal.Gen.slices_S16384x5888_S16384x256_0_512)
          (((cfg0.win 4).blk t).view.emb y) := by
  pointwise [k0_pay6, prod]; blk_point [iblk, V, idx t]

/-- Result 3 after the run. -/
theorem final4 (c : Dev nD) : (dats m 0 c).arrAt 4 (cfgs 0).N
      = extractStridedSlice Cert.Reference2Ideal.S16384x256 ![0, 512] (prod (m ((c : Thread nD τ).loc main_arg0)) (m ((c : Thread nD τ).loc main_arg1)))
        Cert.Reference2Ideal.Gen.slices_S16384x5888_S16384x256_0_512 := by
  refine (dats m 0 c).arrAt_eq_of_covers 4 _ (by decide +kernel) fun t _ y => ?_
  blk_simp; rw [after0_4]; frame_out
  exact point4 m c t y

/-- Columns 768 to 1279 of row block `t`: the stored product is the reference's at the same place. -/
theorem point5 (c : Dev nD) (t : Fin cfg0.N) (y) :
    k0_pay7 (iblk m c 0 t) (View.ld (iblk m c 1 t) r0_5) y
      = (extractStridedSlice Cert.Reference2Ideal.S16384x512 ![0, 768] (prod (m ((c : Thread nD τ).loc main_arg0)) (m ((c : Thread nD τ).loc main_arg1)))
        Cert.Reference2Ideal.Gen.slices_S16384x5888_S16384x512_0_768)
          (((cfg0.win 5).blk t).view.emb y) := by
  pointwise [k0_pay7, prod]; blk_point [iblk, V, idx t]

/-- Result 4 after the run. -/
theorem final5 (c : Dev nD) : (dats m 0 c).arrAt 5 (cfgs 0).N
      = extractStridedSlice Cert.Reference2Ideal.S16384x512 ![0, 768] (prod (m ((c : Thread nD τ).loc main_arg0)) (m ((c : Thread nD τ).loc main_arg1)))
        Cert.Reference2Ideal.Gen.slices_S16384x5888_S16384x512_0_768 := by
  refine (dats m 0 c).arrAt_eq_of_covers 5 _ (by decide +kernel) fun t _ y => ?_
  blk_simp; rw [after0_5]; frame_out
  exact point5 m c t y

/-- Columns 1280 to 1791 of row block `t`: the stored product is the reference's at the same place. -/
theorem point6 (c : Dev nD) (t : Fin cfg0.N) (y) :
    k0_pay8 (iblk m c 0 t) (View.ld (iblk m c 1 t) r0_7) y
      = (extractStridedSlice Cert.Reference2Ideal.S16384x512 ![0, 1280] (prod (m ((c : Thread nD τ).loc main_arg0)) (m ((c : Thread nD τ).loc main_arg1)))
        Cert.Reference2Ideal.Gen.slices_S16384x5888_S16384x512_0_1280)
          (((cfg0.win 6).blk t).view.emb y) := by
  pointwise [k0_pay8, prod]; blk_point [iblk, V, idx t]

/-- Result 5 after the run. -/
theorem final6 (c : Dev nD) : (dats m 0 c).arrAt 6 (cfgs 0).N
      = extractStridedSlice Cert.Reference2Ideal.S16384x512 ![0, 1280] (prod (m ((c : Thread nD τ).loc main_arg0)) (m ((c : Thread nD τ).loc main_arg1)))
        Cert.Reference2Ideal.Gen.slices_S16384x5888_S16384x512_0_1280 := by
  refine (dats m 0 c).arrAt_eq_of_covers 6 _ (by decide +kernel) fun t _ y => ?_
  blk_simp; rw [after0_6]; frame_out
  exact point6 m c t y

/-- Columns 1792 to 2303 of row block `t`: the stored product is the reference's at the same place. -/
theorem point7 (c : Dev nD) (t : Fin cfg0.N) (y) :
    k0_pay10 (k0_pay17 (iblk m c 0 t) (iblk m c 1 t)) (k0_pay9 (View.ld (iblk m c 1 t) r0_8)) (constant S256x512 .f32 0x00000000#32) y
      = (extractStridedSlice Cert.Reference2Ideal.S16384x512 ![0, 1792] (prod (m ((c : Thread nD τ).loc main_arg0)) (m ((c : Thread nD τ).loc main_arg1)))
        Cert.Reference2Ideal.Gen.slices_S16384x5888_S16384x512_0_1792)
          (((cfg0.win 7).blk t).view.emb y) := by
  pointwise [k0_pay10, k0_pay17, prod]; blk_point [iblk, V, idx t]

/-- Result 6 after the run. -/
theorem final7 (c : Dev nD) : (dats m 0 c).arrAt 7 (cfgs 0).N
      = extractStridedSlice Cert.Reference2Ideal.S16384x512 ![0, 1792] (prod (m ((c : Thread nD τ).loc main_arg0)) (m ((c : Thread nD τ).loc main_arg1)))
        Cert.Reference2Ideal.Gen.slices_S16384x5888_S16384x512_0_1792 := by
  refine (dats m 0 c).arrAt_eq_of_covers 7 _ (by decide +kernel) fun t _ y => ?_
  blk_simp; rw [after0_7]; frame_out
  exact point7 m c t y

/-- Columns 2304 to 2815 of row block `t`: the stored product is the reference's at the same place. -/
theorem point8 (c : Dev nD) (t : Fin cfg0.N) (y) :
    k0_pay11 (k0_pay17 (iblk m c 0 t) (iblk m c 1 t)) (View.ld (iblk m c 1 t) r0_9) y
      = (extractStridedSlice Cert.Reference2Ideal.S16384x512 ![0, 2304] (prod (m ((c : Thread nD τ).loc main_arg0)) (m ((c : Thread nD τ).loc main_arg1)))
        Cert.Reference2Ideal.Gen.slices_S16384x5888_S16384x512_0_2304)
          (((cfg0.win 8).blk t).view.emb y) := by
  pointwise [k0_pay11, k0_pay17, prod]; blk_point [iblk, V, idx t]

/-- Result 7 after the run. -/
theorem final8 (c : Dev nD) : (dats m 0 c).arrAt 8 (cfgs 0).N
      = extractStridedSlice Cert.Reference2Ideal.S16384x512 ![0, 2304] (prod (m ((c : Thread nD τ).loc main_arg0)) (m ((c : Thread nD τ).loc main_arg1)))
        Cert.Reference2Ideal.Gen.slices_S16384x5888_S16384x512_0_2304 := by
  refine (dats m 0 c).arrAt_eq_of_covers 8 _ (by decide +kernel) fun t _ y => ?_
  blk_simp; rw [after0_8]; frame_out
  exact point8 m c t y

set_option maxHeartbeats 1600000 in
/-- Columns 2816 to 5887 of row block `t`, store by store. -/
theorem point9 (c : Dev nD) (t : Fin cfg0.N) (y) :
    out0_9 (iblk m c 0 t) (iblk m c 1 t) y
      = (extractStridedSlice Cert.Reference2Ideal.S16384x3072 ![0, 2816] (prod (m ((c : Thread nD τ).loc main_arg0)) (m ((c : Thread nD τ).loc main_arg1)))
        Cert.Reference2Ideal.Gen.slices_S16384x5888_S16384x3072_0_2816)
          (((cfg0.win 9).blk t).view.emb y) := by
  canon_tiles x h
  all_goals (open_payloads; pointwise [prod]; blk_point [iblk, V, idx t])

/-- Result 8 after the run. -/
theorem final9 (c : Dev nD) : (dats m 0 c).arrAt 9 (cfgs 0).N
      = extractStridedSlice Cert.Reference2Ideal.S16384x3072 ![0, 2816] (prod (m ((c : Thread nD τ).loc main_arg0)) (m ((c : Thread nD τ).loc main_arg1)))
        Cert.Reference2Ideal.Gen.slices_S16384x5888_S16384x3072_0_2816 := by
  refine (dats m 0 c).arrAt_eq_of_covers 9 _ (by decide +kernel) fun t _ y => ?_
  blk_simp; rw [after0_9]
  exact point9 m c t y

end Cert.InProj

end
-- ==== Proof.Merge.lean ====
/-
  What the merge computes: the gated sum of the three branches' projections, times the output weights, plus the scaled
  residual, then layer normalization of every row. One grid point does 256 rows; the reference does all rows at once.
  The reference is stated in stages, each from the stage before, so that a stage is read once.
-/
module

public import proofs.«01_k».proof.Proof.Gen.Kernel3Ideal
public import proofs.«01_k».proof.Proof.Gen.Kernel3Ideal.Value
public import proofs.«01_k».proof.Proof.Gen.Reference3Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Merge

open Cert.Kernel3Ideal Cert.Kernel3Ideal.Gen

variable (m : (ℓ : Loc nD τ sig) → Buf (Elt Ideal) ℓ)

/-- The gates: the logistic function, as the reference states it. -/
def gates (a4 : FVec Ideal Cert.Reference3Ideal.S16384x3072 .f32) : FVec Ideal Cert.Reference3Ideal.S16384x3072 .f32 :=
  Host.divf (broadcastInDim Cert.Reference3Ideal.S16384x3072 ![] Cert.Reference3Ideal.Gen.bcast_S_S16384x3072
      (constant Cert.Reference3Ideal.S_ .f32 0x3F800000#32))
    (addf (broadcastInDim Cert.Reference3Ideal.S16384x3072 ![] Cert.Reference3Ideal.Gen.bcast_S_S16384x3072
      (constant Cert.Reference3Ideal.S_ .f32 0x3F800000#32)) (Host.exp (Host.negf a4)))

/-- The gated sum of the three projected branches. -/
def merged (g : FVec Ideal Cert.Reference3Ideal.S16384x3072 .f32) (a1 : FVec Ideal Cert.Reference3Ideal.S16384x256 .f32)
    (a2 : FVec Ideal Cert.Reference3Ideal.S16384x512 .f32) (a3 : FVec Ideal Cert.Reference3Ideal.S16384x256 .f32)
    (a5 : FVec Ideal Cert.Reference3Ideal.S256x1024 .f32) (a6 : FVec Ideal Cert.Reference3Ideal.S512x1024 .f32)
    (a7 : FVec Ideal Cert.Reference3Ideal.S256x1024 .f32) : FVec Ideal Cert.Reference3Ideal.S16384x1024 .f32 :=
  addf (addf
    (mulf (extractStridedSlice Cert.Reference3Ideal.S16384x1024 ![0, 0] g
        Cert.Reference3Ideal.Gen.slices_S16384x3072_S16384x1024_0_0)
      (Host.dotGeneral Cert.Reference3Ideal.dot_S16384x256_S256x1024_S16384x1024_1_0_0_1_n_n none a1 a5))
    (mulf (extractStridedSlice Cert.Reference3Ideal.S16384x1024 ![0, 1024] g
        Cert.Reference3Ideal.Gen.slices_S16384x3072_S16384x1024_0_1024)
      (Host.dotGeneral Cert.Reference3Ideal.dot_S16384x512_S512x1024_S16384x1024_1_0_0_1_n_n none a2 a6)))
    (mulf (extractStridedSlice Cert.Reference3Ideal.S16384x1024 ![0, 2048] g
        Cert.Reference3Ideal.Gen.slices_S16384x3072_S16384x1024_0_2048)
      (Host.dotGeneral Cert.Reference3Ideal.dot_S16384x256_S256x1024_S16384x1024_1_0_0_1_n_n none a3 a7))

/-- The residual, scaled, plus the gated sum times the output weights. -/
def resid (a0 : FVec Ideal Cert.Reference3Ideal.S16384x1024 .f32) (g : FVec Ideal Cert.Reference3Ideal.S16384x1024 .f32)
    (a8 : FVec Ideal Cert.Reference3Ideal.S1024x1024 .f32) : FVec Ideal Cert.Reference3Ideal.S16384x1024 .f32 :=
  addf (mulf (broadcastInDim Cert.Reference3Ideal.S16384x1024 ![] Cert.Reference3Ideal.Gen.bcast_S_S16384x1024
      (constant Cert.Reference3Ideal.S_ .f32 0x3FB504F3#32)) a0)
    (Host.dotGeneral Cert.Reference3Ideal.dot_S16384x1024_S1024x1024_S16384x1024_1_0_0_1_n_n none g a8)

/-- A row's mean. -/
def mean (r : FVec Ideal Cert.Reference3Ideal.S16384x1024 .f32) : FVec Ideal Cert.Reference3Ideal.S16384x1 .f32 :=
  Host.divf (broadcastInDim Cert.Reference3Ideal.S16384x1 ![0] Cert.Reference3Ideal.Gen.bcast_S16384_S16384x1_0
      (Host.reduceAdd r (constant Cert.Reference3Ideal.S_ .f32 0x00000000#32)
        Cert.Reference3Ideal.Gen.reducesTo_S16384x1024_S16384_d1 Cert.Reference3Ideal.Gen.h_S_))
    (broadcastInDim Cert.Reference3Ideal.S16384x1 ![] Cert.Reference3Ideal.Gen.bcast_S_S16384x1
      (constant Cert.Reference3Ideal.S_ .f32 0x44800000#32))

/-- Each row less a number per row. -/
def centered (r : FVec Ideal Cert.Reference3Ideal.S16384x1024 .f32) (mu : FVec Ideal Cert.Reference3Ideal.S16384x1 .f32) :
    FVec Ideal Cert.Reference3Ideal.S16384x1024 .f32 :=
  subf r (broadcastInDim Cert.Reference3Ideal.S16384x1024 ![0, 1]
    Cert.Reference3Ideal.Gen.bcast_S16384x1_S16384x1024_0_1 mu)

/-- The centered rows over their deviation, with gain and offset. -/
def scaled (d : FVec Ideal Cert.Reference3Ideal.S16384x1024 .f32) (var : FVec Ideal Cert.Reference3Ideal.S16384x1 .f32)
    (a9 a10 : FVec Ideal Cert.Reference3Ideal.S1x1024 .f32) : FVec Ideal Cert.Reference3Ideal.S16384x1024 .f32 :=
  addf (mulf (mulf d (broadcastInDim Cert.Reference3Ideal.S16384x1024 ![0, 1]
        Cert.Reference3Ideal.Gen.bcast_S16384x1_S16384x1024_0_1
        (Host.rsqrt (addf var (broadcastInDim Cert.Reference3Ideal.S16384x1 ![]
          Cert.Reference3Ideal.Gen.bcast_S_S16384x1 (constant Cert.Reference3Ideal.S_ .f32 0x3727C5AC#32))))))
      (broadcastInDim Cert.Reference3Ideal.S16384x1024 ![0, 1] Cert.Reference3Ideal.Gen.bcast_S1x1024_S16384x1024_0_1
        (broadcastInDim Cert.Reference3Ideal.S1x1024 ![1] Cert.Reference3Ideal.Gen.bcast_S1024_S1x1024_1
          (shapeCast Cert.Reference3Ideal.S1024 a9 Cert.Reference3Ideal.Gen.shapeCasts_S1x1024_S1024))))
    (broadcastInDim Cert.Reference3Ideal.S16384x1024 ![0, 1] Cert.Reference3Ideal.Gen.bcast_S1x1024_S16384x1024_0_1
      (broadcastInDim Cert.Reference3Ideal.S1x1024 ![1] Cert.Reference3Ideal.Gen.bcast_S1024_S1x1024_1
        (shapeCast Cert.Reference3Ideal.S1024 a10 Cert.Reference3Ideal.Gen.shapeCasts_S1x1024_S1024)))

/-- Layer normalization of the rows. -/
def normed (r : FVec Ideal Cert.Reference3Ideal.S16384x1024 .f32) (a9 a10 : FVec Ideal Cert.Reference3Ideal.S1x1024 .f32) :
    FVec Ideal Cert.Reference3Ideal.S16384x1024 .f32 :=
  scaled (centered r (mean r)) (mean (mulf (centered r (mean r)) (centered r (mean r)))) a9 a10

/-- The reference's result, from its arguments. -/
def out (a0 : FVec Ideal Cert.Reference3Ideal.S16384x1024 .f32) (a1 : FVec Ideal Cert.Reference3Ideal.S16384x256 .f32)
    (a2 : FVec Ideal Cert.Reference3Ideal.S16384x512 .f32) (a3 : FVec Ideal Cert.Reference3Ideal.S16384x256 .f32)
    (a4 : FVec Ideal Cert.Reference3Ideal.S16384x3072 .f32)
    (a5 : FVec Ideal Cert.Reference3Ideal.S256x1024 .f32) (a6 : FVec Ideal Cert.Reference3Ideal.S512x1024 .f32)
    (a7 : FVec Ideal Cert.Reference3Ideal.S256x1024 .f32) (a8 : FVec Ideal Cert.Reference3Ideal.S1024x1024 .f32)
    (a9 a10 : FVec Ideal Cert.Reference3Ideal.S1x1024 .f32) : FVec Ideal Cert.Reference3Ideal.S16384x1024 .f32 :=
  normed (resid a0 (merged (gates a4) a1 a2 a3 a5 a6 a7) a8) a9 a10

/-- The block every window reads or writes at every grid point: row block `t`, or the whole array. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0] :=
  (by decide +kernel : ∀ t : Fin grid0.N, _)

/-- The reference's rows before the normalization, from the kernel's memory. -/
abbrev rows (c : Dev nD) : FVec Ideal Cert.Reference3Ideal.S16384x1024 .f32 :=
  resid (m ((c : Thread nD τ).loc main_arg0)) (merged (gates (m ((c : Thread nD τ).loc main_arg4)))
    (m ((c : Thread nD τ).loc main_arg1)) (m ((c : Thread nD τ).loc main_arg2)) (m ((c : Thread nD τ).loc main_arg3))
    (m ((c : Thread nD τ).loc main_arg5)) (m ((c : Thread nD τ).loc main_arg6)) (m ((c : Thread nD τ).loc main_arg7)))
    (m ((c : Thread nD τ).loc main_arg8))

/-- The rows of point `t` before the normalization. -/
def blockRows (c : Dev nD) (t : Fin cfg0.N) : FVec Ideal S256x1024 .f32 :=
  addf (mulf (k0_pay3 (F := Ideal)) (iblk m c 0 t)) (k0_pay2 (View.ld (iblk m c 4 t) r0_0) (iblk m c 1 t) (iblk m c 5 t)
    (View.ld (iblk m c 4 t) r0_3) (iblk m c 2 t) (iblk m c 6 t) (View.ld (iblk m c 4 t) r0_6) (iblk m c 3 t)
    (iblk m c 7 t) (iblk m c 8 t))

/-- They are the reference's. -/
theorem blockRows_apply (c : Dev nD) (t : Fin cfg0.N) (y : S256x1024.Idx) (i : Cert.Reference3Ideal.S16384x1024.Idx)
    (h0 : (i 0 : ℕ) = 256 * t.val + y 0) (h1 : (i 1 : ℕ) = y 1) : blockRows m c t y = rows m c i := by
  pointwise [blockRows, k0_pay2, k0_pay3, resid, merged, gates]
  simp only [Ideal.logistic]
  blk_point [iblk, V, idx t]

/-- The normalization, from rows that agree: block rows `v31 * v30 + v29` at row `r`, whole rows `B` at row `256 t + r`. -/
theorem norm_apply (t : Fin 64) (v29 : FVec Ideal S256x1024 .f32) (v30 : Vec Ideal S256x1024 .f32)
    (v31 : FVec Ideal S256x1024 .f32) (v34 v35 : Vec Ideal S1x1024 .f32)
    (B : FVec Ideal Cert.Reference3Ideal.S16384x1024 .f32) (a9 a10 : FVec Ideal Cert.Reference3Ideal.S1x1024 .f32)
    (h9 : v34 = a9) (h10 : v35 = a10)
    (hA : ∀ (r : Fin 256) (k : Fin 1024), v31 (ix2 r k) * v30 (ix2 r k) + v29 (ix2 r k)
      = B (ix2 (⟨256 * t.val + r.val, by omega⟩ : Fin 16384) k))
    (r : Fin 256) (k : Fin 1024) :
    k0_pay1 v29 v30 v31 v34 v35 (ix2 r k)
      = normed B a9 a10 (ix2 (⟨256 * t.val + r.val, by omega⟩ : Fin 16384) k) := by
  subst h9 h10
  pointwise [k0_pay1, normed, scaled, mean, centered]
  simp only [hA]
  blk_ext

/-- What point `t` stores is the reference's result at the same rows. -/
theorem point (c : Dev nD) (t : Fin cfg0.N) (y : S256x1024.Idx) :
    k0_pay1 (k0_pay2 (View.ld (iblk m c 4 t) r0_0) (iblk m c 1 t) (iblk m c 5 t) (View.ld (iblk m c 4 t) r0_3)
        (iblk m c 2 t) (iblk m c 6 t) (View.ld (iblk m c 4 t) r0_6) (iblk m c 3 t) (iblk m c 7 t) (iblk m c 8 t))
      (iblk m c 0 t) (k0_pay3 (F := Ideal)) (iblk m c 9 t) (iblk m c 10 t) y
      = normed (rows m c) (m ((c : Thread nD τ).loc main_arg9)) (m ((c : Thread nD τ).loc main_arg10))
          (((cfg0.win 11).blk t).view.emb y) := by
  have ht : t.val < 64 := lt_of_lt_of_eq t.isLt N_0
  have e : ((cfg0.win 11).blk t).view.emb y
      = ix2 (⟨256 * t.val + (y 0).val, by have := (y 0).isLt; change _ < 256 at this; omega⟩ : Fin 16384) (y 1 : Fin 1024) := by
    blk_ext [idx t]
  have ey : y = ix2 (y 0 : Fin 256) (y 1 : Fin 1024) := by blk_ext
  rw [e]
  conv_lhs => rw [ey]
  refine norm_apply ⟨t.val, ht⟩ _ _ _ _ _ (rows m c) _ _ ?_ ?_ (fun r k => ?_) (y 0) (y 1)
  · funext x; blk_point [iblk, V, idx t]
  · funext x; blk_point [iblk, V, idx t]
  · exact blockRows_apply m c t (ix2 r k) _ rfl rfl

/-- The result after the run. -/
theorem final (c : Dev nD) : (dats m 0 c).arrAt 11 (cfgs 0).N
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) := by
  refine (dats m 0 c).arrAt_eq_of_covers 11 _ (by decide +kernel) fun t _ y => ?_
  blk_simp; rw [after0_11]; frame_out
  exact point m c t y

end Cert.Merge

end
-- ==== Proof.InProjSample.lean ====
/-
  What the input projection computes (32 rows, 1 row block of 32): each of its eight result arrays is the matching column
  slice of `x · w`. One row block of `x` is multiplied with the columns of one result at a time; the last result, the gates,
  is written in six stores of 512 columns. The weights are cast on the host, which over the reals changes nothing.
-/
module

public import proofs.«01_k».proof.Proof.Gen.Kernel4Ideal
public import proofs.«01_k».proof.Proof.Gen.Kernel4Ideal.Value
public import proofs.«01_k».proof.Proof.Gen.Reference4Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProjSample

open Cert.Kernel4Ideal Cert.Kernel4Ideal.Gen

variable (m : (ℓ : Loc nD τ sig) → Buf (Elt Ideal) ℓ)

/-- The whole product `x · w`, as the reference states it. -/
abbrev prod (x : FVec Ideal Cert.Reference4Ideal.S32x1024 .f32) (w : FVec Ideal Cert.Reference4Ideal.S1024x5888 .f32) :
    FVec Ideal Cert.Reference4Ideal.S32x5888 .f32 :=
  Host.dotGeneral Cert.Reference4Ideal.dot_S32x1024_S1024x5888_S32x5888_1_0_0_1_n_n none x w

/-- The block every window reads or writes at every grid point: row block `t`, or the whole of the weights. -/
theorem idx : ∀ t : Fin cfg0.N, win0_0.index t = ![t.val, 0] ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0] :=
  (by decide +kernel : ∀ t : Fin grid0.N, _)

/-- Columns 0 to 255 of row block `t`: the stored product is the reference's at the same place. -/
theorem point2 (c : Dev nD) (t : Fin cfg0.N) (y) :
    k0_pay4 (iblk m c 0 t) (View.ld (iblk m c 1 t) r0_1) y
      = (extractStridedSlice Cert.Reference4Ideal.S32x256 ![0, 0] (prod (m ((c : Thread nD τ).loc main_arg0)) (m ((c : Thread nD τ).loc main_arg1)))
        Cert.Reference4Ideal.Gen.slices_S32x5888_S32x256_0_0)
          (((cfg0.win 2).blk t).view.emb y) := by
  pointwise [k0_pay4, prod]; blk_point [iblk, V, idx t]

/-- Result 1 after the run. -/
theorem final2 (c : Dev nD) : (dats m 0 c).arrAt 2 (cfgs 0).N
      = extractStridedSlice Cert.Reference4Ideal.S32x256 ![0, 0] (prod (m ((c : Thread nD τ).loc main_arg0)) (m ((c : Thread nD τ).loc main_arg1)))
        Cert.Reference4Ideal.Gen.slices_S32x5888_S32x256_0_0 := by
  refine (dats m 0 c).arrAt_eq_of_covers 2 _ (by decide +kernel) fun t _ y => ?_
  blk_simp; rw [after0_2]; frame_out
  exact point2 m c t y

/-- Columns 256 to 511 of row block `t`: the stored product is the reference's at the same place. -/
theorem point3 (c : Dev nD) (t : Fin cfg0.N) (y) :
    k0_pay5 (iblk m c 0 t) (View.ld (iblk m c 1 t) r0_3) y
      = (extractStridedSlice Cert.Reference4Ideal.S32x256 ![0, 256] (prod (m ((c : Thread nD τ).loc main_arg0)) (m ((c : Thread nD τ).loc main_arg1)))
        Cert.Reference4Ideal.Gen.slices_S32x5888_S32x256_0_256)
          (((cfg0.win 3).blk t).view.emb y) := by
  pointwise [k0_pay5, prod]; blk_point [iblk, V, idx t]

/-- Result 2 after the run. -/
theorem final3 (c : Dev nD) : (dats m 0 c).arrAt 3 (cfgs 0).N
      = extractStridedSlice Cert.Reference4Ideal.S32x256 ![0, 256] (prod (m ((c : Thread nD τ).loc main_arg0)) (m ((c : Thread nD τ).loc main_arg1)))
        Cert.Reference4Ideal.Gen.slices_S32x5888_S32x256_0_256 := by
  refine (dats m 0 c).arrAt_eq_of_covers 3 _ (by decide +kernel) fun t _ y => ?_
  blk_simp; rw [after0_3]; frame_out
  exact point3 m c t y

/-- Columns 512 to 767 of row block `t`: the stored product is the reference's at the same place. -/
theorem point4 (c : Dev nD) (t : Fin cfg0.N) (y) :
    k0_pay6 (iblk m c 0 t) (View.ld (iblk m c 1 t) r0_4) y
      = (extractStridedSlice Cert.Reference4Ideal.S32x256 ![0, 512] (prod (m ((c : Thread nD τ).loc main_arg0)) (m ((c : Thread nD τ).loc main_arg1)))
        Cert.Reference4Ideal.Gen.slices_S32x5888_S32x256_0_512)
          (((cfg0.win 4).blk t).view.emb y) := by
  pointwise [k0_pay6, prod]; blk_point [iblk, V, idx t]

/-- Result 3 after the run. -/
theorem final4 (c : Dev nD) : (dats m 0 c).arrAt 4 (cfgs 0).N
      = extractStridedSlice Cert.Reference4Ideal.S32x256 ![0, 512] (prod (m ((c : Thread nD τ).loc main_arg0)) (m ((c : Thread nD τ).loc main_arg1)))
        Cert.Reference4Ideal.Gen.slices_S32x5888_S32x256_0_512 := by
  refine (dats m 0 c).arrAt_eq_of_covers 4 _ (by decide +kernel) fun t _ y => ?_
  blk_simp; rw [after0_4]; frame_out
  exact point4 m c t y

/-- Columns 768 to 1279 of row block `t`: the stored product is the reference's at the same place. -/
theorem point5 (c : Dev nD) (t : Fin cfg0.N) (y) :
    k0_pay7 (iblk m c 0 t) (View.ld (iblk m c 1 t) r0_5) y
      = (extractStridedSlice Cert.Reference4Ideal.S32x512 ![0, 768] (prod (m ((c : Thread nD τ).loc main_arg0)) (m ((c : Thread nD τ).loc main_arg1)))
        Cert.Reference4Ideal.Gen.slices_S32x5888_S32x512_0_768)
          (((cfg0.win 5).blk t).view.emb y) := by
  pointwise [k0_pay7, prod]; blk_point [iblk, V, idx t]

/-- Result 4 after the run. -/
theorem final5 (c : Dev nD) : (dats m 0 c).arrAt 5 (cfgs 0).N
      = extractStridedSlice Cert.Reference4Ideal.S32x512 ![0, 768] (prod (m ((c : Thread nD τ).loc main_arg0)) (m ((c : Thread nD τ).loc main_arg1)))
        Cert.Reference4Ideal.Gen.slices_S32x5888_S32x512_0_768 := by
  refine (dats m 0 c).arrAt_eq_of_covers 5 _ (by decide +kernel) fun t _ y => ?_
  blk_simp; rw [after0_5]; frame_out
  exact point5 m c t y

/-- Columns 1280 to 1791 of row block `t`: the stored product is the reference's at the same place. -/
theorem point6 (c : Dev nD) (t : Fin cfg0.N) (y) :
    k0_pay8 (iblk m c 0 t) (View.ld (iblk m c 1 t) r0_7) y
      = (extractStridedSlice Cert.Reference4Ideal.S32x512 ![0, 1280] (prod (m ((c : Thread nD τ).loc main_arg0)) (m ((c : Thread nD τ).loc main_arg1)))
        Cert.Reference4Ideal.Gen.slices_S32x5888_S32x512_0_1280)
          (((cfg0.win 6).blk t).view.emb y) := by
  pointwise [k0_pay8, prod]; blk_point [iblk, V, idx t]

/-- Result 5 after the run. -/
theorem final6 (c : Dev nD) : (dats m 0 c).arrAt 6 (cfgs 0).N
      = extractStridedSlice Cert.Reference4Ideal.S32x512 ![0, 1280] (prod (m ((c : Thread nD τ).loc main_arg0)) (m ((c : Thread nD τ).loc main_arg1)))
        Cert.Reference4Ideal.Gen.slices_S32x5888_S32x512_0_1280 := by
  refine (dats m 0 c).arrAt_eq_of_covers 6 _ (by decide +kernel) fun t _ y => ?_
  blk_simp; rw [after0_6]; frame_out
  exact point6 m c t y

/-- Columns 1792 to 2303 of row block `t`: the stored product is the reference's at the same place. -/
theorem point7 (c : Dev nD) (t : Fin cfg0.N) (y) :
    k0_pay10 (k0_pay17 (iblk m c 0 t) (iblk m c 1 t)) (k0_pay9 (View.ld (iblk m c 1 t) r0_8)) (constant S32x512 .f32 0x00000000#32) y
      = (extractStridedSlice Cert.Reference4Ideal.S32x512 ![0, 1792] (prod (m ((c : Thread nD τ).loc main_arg0)) (m ((c : Thread nD τ).loc main_arg1)))
        Cert.Reference4Ideal.Gen.slices_S32x5888_S32x512_0_1792)
          (((cfg0.win 7).blk t).view.emb y) := by
  pointwise [k0_pay10, k0_pay17, prod]; blk_point [iblk, V, idx t]

/-- Result 6 after the run. -/
theorem final7 (c : Dev nD) : (dats m 0 c).arrAt 7 (cfgs 0).N
      = extractStridedSlice Cert.Reference4Ideal.S32x512 ![0, 1792] (prod (m ((c : Thread nD τ).loc main_arg0)) (m ((c : Thread nD τ).loc main_arg1)))
        Cert.Reference4Ideal.Gen.slices_S32x5888_S32x512_0_1792 := by
  refine (dats m 0 c).arrAt_eq_of_covers 7 _ (by decide +kernel) fun t _ y => ?_
  blk_simp; rw [after0_7]; frame_out
  exact point7 m c t y

/-- Columns 2304 to 2815 of row block `t`: the stored product is the reference's at the same place. -/
theorem point8 (c : Dev nD) (t : Fin cfg0.N) (y) :
    k0_pay11 (k0_pay17 (iblk m c 0 t) (iblk m c 1 t)) (View.ld (iblk m c 1 t) r0_9) y
      = (extractStridedSlice Cert.Reference4Ideal.S32x512 ![0, 2304] (prod (m ((c : Thread nD τ).loc main_arg0)) (m ((c : Thread nD τ).loc main_arg1)))
        Cert.Reference4Ideal.Gen.slices_S32x5888_S32x512_0_2304)
          (((cfg0.win 8).blk t).view.emb y) := by
  pointwise [k0_pay11, k0_pay17, prod]; blk_point [iblk, V, idx t]

/-- Result 7 after the run. -/
theorem final8 (c : Dev nD) : (dats m 0 c).arrAt 8 (cfgs 0).N
      = extractStridedSlice Cert.Reference4Ideal.S32x512 ![0, 2304] (prod (m ((c : Thread nD τ).loc main_arg0)) (m ((c : Thread nD τ).loc main_arg1)))
        Cert.Reference4Ideal.Gen.slices_S32x5888_S32x512_0_2304 := by
  refine (dats m 0 c).arrAt_eq_of_covers 8 _ (by decide +kernel) fun t _ y => ?_
  blk_simp; rw [after0_8]; frame_out
  exact point8 m c t y

set_option maxHeartbeats 1600000 in
/-- Columns 2816 to 5887 of row block `t`, store by store. -/
theorem point9 (c : Dev nD) (t : Fin cfg0.N) (y) :
    out0_9 (iblk m c 0 t) (iblk m c 1 t) y
      = (extractStridedSlice Cert.Reference4Ideal.S32x3072 ![0, 2816] (prod (m ((c : Thread nD τ).loc main_arg0)) (m ((c : Thread nD τ).loc main_arg1)))
        Cert.Reference4Ideal.Gen.slices_S32x5888_S32x3072_0_2816)
          (((cfg0.win 9).blk t).view.emb y) := by
  canon_tiles x h
  all_goals (open_payloads; pointwise [prod]; blk_point [iblk, V, idx t])

/-- Result 8 after the run. -/
theorem final9 (c : Dev nD) : (dats m 0 c).arrAt 9 (cfgs 0).N
      = extractStridedSlice Cert.Reference4Ideal.S32x3072 ![0, 2816] (prod (m ((c : Thread nD τ).loc main_arg0)) (m ((c : Thread nD τ).loc main_arg1)))
        Cert.Reference4Ideal.Gen.slices_S32x5888_S32x3072_0_2816 := by
  refine (dats m 0 c).arrAt_eq_of_covers 9 _ (by decide +kernel) fun t _ y => ?_
  blk_simp; rw [after0_9]
  exact point9 m c t y

end Cert.InProjSample

end
-- ==== Proof.Taps.lean ====
/-
  The sum over the 31 taps of the convolution, in the order of the taps, and in the order the samples' kernel adds it up.
-/
module

public import Idealize.ShloMosaic.Lib.Pipeline.ValueKit

@[expose] public section

set_option maxRecDepth 16384

noncomputable section

namespace Cert.Taps

/-- The taps' products in order. -/
def taps (f w : Fin 31 → EReal) : EReal :=
  f 0 * w 0 + f 1 * w 1 + f 2 * w 2 + f 3 * w 3 + f 4 * w 4 + f 5 * w 5 + f 6 * w 6 + f 7 * w 7 + f 8 * w 8 + f 9 *
  w 9 + f 10 * w 10 + f 11 * w 11 + f 12 * w 12 + f 13 * w 13 + f 14 * w 14 + f 15 * w 15 + f 16 * w 16 + f 17 * w
  17 + f 18 * w 18 + f 19 * w 19 + f 20 * w 20 + f 21 * w 21 + f 22 * w 22 + f 23 * w 23 + f 24 * w 24 + f 25 * w 25
  + f 26 * w 26 + f 27 * w 27 + f 28 * w 28 + f 29 * w 29 + f 30 * w 30

/-- The newest row's product first, then the others in order. -/
theorem newest_first (f w : Fin 31 → EReal) :
    f 30 * w 30 + f 0 * w 0 + f 1 * w 1 + f 2 * w 2 + f 3 * w 3 + f 4 * w 4 + f 5 * w 5 + f 6 * w 6 + f 7 * w 7 + f
    8 * w 8 + f 9 * w 9 + f 10 * w 10 + f 11 * w 11 + f 12 * w 12 + f 13 * w 13 + f 14 * w 14 + f 15 * w 15 + f 16 *
    w 16 + f 17 * w 17 + f 18 * w 18 + f 19 * w 19 + f 20 * w 20 + f 21 * w 21 + f 22 * w 22 + f 23 * w 23 + f 24 *
    w 24 + f 25 * w 25 + f 26 * w 26 + f 27 * w 27 + f 28 * w 28 + f 29 * w 29
      = taps f w := by
  rw [taps]
  ac_rfl

/-- The activation: a number times its logistic. -/
def silu (x : EReal) : EReal := x * Idealize.ShloMosaic.Ideal.logistic x

end Cert.Taps

end
-- ==== Proof.ConvSample.lean ====
/-
  What the samples' convolution computes: the newest row gated, the 31 taps over the state's rows and the newest row, then
  layer normalization and the activation; and the state with its first row dropped and the newest row put last.
-/
module

public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Taps
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ConvSample

open Cert.Kernel5Ideal Cert.Kernel5Ideal.Gen

/-- The reference's rows before the normalization: the taps' products, plus the offset. -/
theorem ref_rows (V0 : Valuation Cert.Reference5Ideal.τ Cert.Reference5Ideal.sig (Elt Ideal)) (r : Fin 32) (k : Fin 256) :
    Cert.Reference5Ideal.Value.res_main_v230 V0 (ix3 r 0 k)
      = Cert.Taps.taps (fun j => Cert.Reference5Ideal.Value.res_main_v11 V0 (ix3 r j k))
          (fun j => V0 (Proc.devRef .tc Cert.Reference5Ideal.main_arg2) (ix2 j k))
        + V0 (Proc.devRef .tc Cert.Reference5Ideal.main_arg3) (ix1 k) := by
  pointwise [Cert.Reference5Ideal.Value.res_main_v230, Cert.Reference5Ideal.Value.res_main_v171, Cert.Reference5Ideal.Value.res_main_v94]
  rw [Cert.Taps.taps]

/-- The kernel's. -/
theorem ker_rows (x0 : Vec Ideal S32x512 .f32) (x1 : Vec Ideal S30x32x256 .f32) (x2 : Vec Ideal S31x256 .f32)
    (x3 x4 x5 : Vec Ideal S1x256 .f32) (r : Fin 32) (k : Fin 256) (f : Fin 31 → EReal)
    (hf : ∀ j : Fin 30, x1 (ix3 j r k) = f j.castSucc)
    (hu : k0_pay2 (View.ld x0 r0_0) (View.ld x0 r0_1) (ix2 r k) = f 30) :
    k0_pay10 (k0_pay14 x0 x1 x2 x3 x4 x5) (View.ld x1 r0_55) (View.ld x2 r0_56) (View.ld x1 r0_57) (View.ld x2 r0_58)
      (View.ld x1 r0_59) (View.ld x2 r0_60) (View.ld x1 r0_61) (View.ld x2 r0_62) x3 (ix2 r k)
      = Cert.Taps.taps f (fun j => x2 (ix2 j k)) + x3 (ix2 0 k) := by
  unfold k0_pay14
  pointwise [k0_pay10, k0_pay9, k0_pay8, k0_pay7, k0_pay6, k0_pay5, k0_pay4, k0_pay3]
  rw [← Cert.Taps.newest_first, hu]
  simp only [hf]
  rfl

/-- The normalization and the activation, from rows that agree. -/
theorem norm_apply (V0 : Valuation Cert.Reference5Ideal.τ Cert.Reference5Ideal.sig (Elt Ideal))
    (A : FVec Ideal S32x256 .f32) (x4 x5 : FVec Ideal S1x256 .f32) (r : Fin 32) (k : Fin 256)
    (hA : ∀ (r : Fin 32) (k : Fin 256), A (ix2 r k) = Cert.Reference5Ideal.Value.res_main_v230 V0 (ix3 r 0 k))
    (h4 : x4 (ix2 0 k) = V0 (Proc.devRef .tc Cert.Reference5Ideal.main_arg4) (ix1 k))
    (h5 : x5 (ix2 0 k) = V0 (Proc.devRef .tc Cert.Reference5Ideal.main_arg5) (ix1 k)) :
    k0_pay1 A x4 x5 (shapeCast S32x1 (multiReduction .add [1] S32 A 0x00000000#32 reduces_S32x256_S32 (.inl rfl) rfl) shapeCasts_S32_S32x1) (ix2 r k)
      = Cert.Taps.silu (Cert.Reference5Ideal.Value.res_main_v254 V0 (ix3 r 0 k)) := by
  pointwise [k0_pay1, Cert.Reference5Ideal.Value.res_main_v254, Cert.Reference5Ideal.Value.res_main_v236, Cert.Reference5Ideal.Value.res_main_v234]
  simp only [hA, h4, h5, Cert.Taps.silu]
  blk_ext

/-- The newest row, in the reference's rows. -/
theorem full_last (V0 : Valuation Cert.Reference5Ideal.τ Cert.Reference5Ideal.sig (Elt Ideal)) (r : Fin 32) (k : Fin 256) :
    k0_pay2 (View.ld (V0 (Proc.devRef .tc Cert.Reference5Ideal.main_arg0) : Vec Ideal S32x512 .f32) r0_0)
      (View.ld (V0 (Proc.devRef .tc Cert.Reference5Ideal.main_arg0) : Vec Ideal S32x512 .f32) r0_1) (ix2 r k)
      = Cert.Reference5Ideal.Value.res_main_v11 V0 (ix3 r 30 k) := by
  pointwise [k0_pay2, Cert.Reference5Ideal.Value.res_main_v11]
  simp only [Ideal.logistic]
  blk_ext

/-- The rows before it. -/
theorem full_init (V0 : Valuation Cert.Reference5Ideal.τ Cert.Reference5Ideal.sig (Elt Ideal)) (r : Fin 32) (j : Fin 30) (k : Fin 256) :
    Cert.Reference5Ideal.Value.res_main_v11 V0 (ix3 r j.castSucc k)
      = V0 (Proc.devRef .tc Cert.Reference5Ideal.main_arg1) (ix3 r j k) := by
  pointwise [Cert.Reference5Ideal.Value.res_main_v11]
  rw [dif_pos (show (j.castSucc : ℕ) < 30 from j.isLt)]
  rfl

variable (m : (ℓ : Loc nD τ sig) → Buf (Elt Ideal) ℓ)

/-- The reference's launch contents hold the kernel's arguments. -/
def Agree (c : Dev nD) (V0 : Valuation Cert.Reference5Ideal.τ Cert.Reference5Ideal.sig (Elt Ideal)) : Prop :=
  (V0 (Proc.devRef .tc Cert.Reference5Ideal.main_arg0) : FVec Ideal S32x512 .f32) = m ((c : Thread nD τ).loc main_arg0)
  ∧ (V0 (Proc.devRef .tc Cert.Reference5Ideal.main_arg1) : FVec Ideal S32x30x256 .f32) = m ((c : Thread nD τ).loc main_arg1)
  ∧ (V0 (Proc.devRef .tc Cert.Reference5Ideal.main_arg2) : FVec Ideal S31x256 .f32) = m ((c : Thread nD τ).loc main_arg2)
  ∧ (V0 (Proc.devRef .tc Cert.Reference5Ideal.main_arg3) : FVec Ideal S256 .f32) = m ((c : Thread nD τ).loc main_arg3)
  ∧ (V0 (Proc.devRef .tc Cert.Reference5Ideal.main_arg4) : FVec Ideal S256 .f32) = m ((c : Thread nD τ).loc main_arg4)
  ∧ (V0 (Proc.devRef .tc Cert.Reference5Ideal.main_arg5) : FVec Ideal S256 .f32) = m ((c : Thread nD τ).loc main_arg5)

/-- Every window is its whole array. -/
theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The state, positions first, as the region finds it. -/
theorem V_v0 (c : Dev nD) : V m c main_v0
    = transpose S30x32x256 [1, 0, 2] (m ((c : Thread nD τ).loc main_arg1)) transposes_S32x30x256_S30x32x256_1_0_2 := by
  simp only [V, V0, hostOps0, List.flatten_cons, List.flatten_nil, List.append_nil]
  after_results

/-- The offset, as one row. -/
theorem V_v1 (c : Dev nD) : V m c main_v1
    = shapeCast S1x256 (m ((c : Thread nD τ).loc main_arg3)) shapeCasts_S256_S1x256 := by
  simp only [V, V0, hostOps0, List.flatten_cons, List.flatten_nil, List.append_nil]
  after_results
  rfl

/-- The gain, as one row. -/
theorem V_v2 (c : Dev nD) : V m c main_v2
    = shapeCast S1x256 (m ((c : Thread nD τ).loc main_arg4)) shapeCasts_S256_S1x256 := by
  simp only [V, V0, hostOps0, List.flatten_cons, List.flatten_nil, List.append_nil]
  after_results
  rfl

/-- The normalization's offset, as one row. -/
theorem V_v3 (c : Dev nD) : V m c main_v3
    = shapeCast S1x256 (m ((c : Thread nD τ).loc main_arg5)) shapeCasts_S256_S1x256 := by
  simp only [V, V0, hostOps0, List.flatten_cons, List.flatten_nil, List.append_nil]
  after_results
  rfl

theorem blk0 (c : Dev nD) (t : Fin cfg0.N) : iblk m c 0 t = m ((c : Thread nD τ).loc main_arg0) := by
  funext x; blk_point [iblk, V, idx t]

theorem blk1 (c : Dev nD) (t : Fin cfg0.N) (r : Fin 32) (j : Fin 30) (k : Fin 256) :
    (iblk m c 1 t : Vec Ideal S30x32x256 .f32) (ix3 j r k) = m ((c : Thread nD τ).loc main_arg1) (ix3 r j k) := by
  have e : iblk m c 1 t = V m c main_v0 := by funext x; blk_point [iblk, idx t]
  rw [e, V_v0]; pointwise

theorem blk2 (c : Dev nD) (t : Fin cfg0.N) : iblk m c 2 t = m ((c : Thread nD τ).loc main_arg2) := by
  funext x; blk_point [iblk, V, idx t]

theorem blk3 (c : Dev nD) (t : Fin cfg0.N) (k : Fin 256) :
    (iblk m c 3 t : Vec Ideal S1x256 .f32) (ix2 0 k) = m ((c : Thread nD τ).loc main_arg3) (ix1 k) := by
  have e : iblk m c 3 t = V m c main_v1 := by funext x; blk_point [iblk, idx t]
  rw [e, V_v1]; pointwise

theorem blk4 (c : Dev nD) (t : Fin cfg0.N) (k : Fin 256) :
    (iblk m c 4 t : Vec Ideal S1x256 .f32) (ix2 0 k) = m ((c : Thread nD τ).loc main_arg4) (ix1 k) := by
  have e : iblk m c 4 t = V m c main_v2 := by funext x; blk_point [iblk, idx t]
  rw [e, V_v2]; pointwise

theorem blk5 (c : Dev nD) (t : Fin cfg0.N) (k : Fin 256) :
    (iblk m c 5 t : Vec Ideal S1x256 .f32) (ix2 0 k) = m ((c : Thread nD τ).loc main_arg5) (ix1 k) := by
  have e : iblk m c 5 t = V m c main_v3 := by funext x; blk_point [iblk, idx t]
  rw [e, V_v3]; pointwise

/-- The newest rows: the gated first half of the columns. -/
def newest (a0 : Vec Ideal S32x512 .f32) : FVec Ideal S32x256 .f32 := k0_pay2 (View.ld a0 r0_0) (View.ld a0 r0_1)

/-- The second result of the call. -/
theorem final7 (c : Dev nD) : (dats m 0 c).arrAt 7 (cfgs 0).N = newest (m ((c : Thread nD τ).loc main_arg0)) := by
  refine (dats m 0 c).arrAt_eq_of_covers 7 _ (by decide +kernel) fun t _ y => ?_
  have e : ((cfg0.win 7).blk t).view.emb y = y := by blk_ext [idx t]
  rw [e]
  blk_simp; rw [after0_7]; frame_out
  rw [blk0, newest]

/-- The rows before the normalization, kernel against reference. -/
theorem rows (c : Dev nD) (V0 : Valuation Cert.Reference5Ideal.τ Cert.Reference5Ideal.sig (Elt Ideal)) (h : Agree m c V0)
    (t : Fin cfg0.N) (r : Fin 32) (k : Fin 256) :
    k0_pay10 (k0_pay14 (iblk m c 0 t) (iblk m c 1 t) (iblk m c 2 t) (iblk m c 3 t) (iblk m c 4 t) (iblk m c 5 t))
      (View.ld (iblk m c 1 t) r0_55) (View.ld (iblk m c 2 t) r0_56) (View.ld (iblk m c 1 t) r0_57)
      (View.ld (iblk m c 2 t) r0_58) (View.ld (iblk m c 1 t) r0_59) (View.ld (iblk m c 2 t) r0_60)
      (View.ld (iblk m c 1 t) r0_61) (View.ld (iblk m c 2 t) r0_62) (iblk m c 3 t) (ix2 r k)
      = Cert.Reference5Ideal.Value.res_main_v230 V0 (ix3 r 0 k) := by
  obtain ⟨h0, h1, h2, h3, h4, h5⟩ := h
  refine (ker_rows _ _ _ _ (iblk m c 4 t) (iblk m c 5 t) r k
    (fun j => Cert.Reference5Ideal.Value.res_main_v11 V0 (ix3 r j k)) (fun j => ?_) ?_).trans ?_
  · rw [blk1, full_init, h1]
  · rw [blk0, ← h0]; exact full_last V0 r k
  · rw [ref_rows, blk2, blk3, h2, h3]

theorem pay13_eq (v162 : FVec Ideal S32x256 .f32) (v163 v169 v175 v181 : Vec Ideal S1x32x256 .f32)
    (v165 v171 v177 v183 v187 : Vec Ideal S1x256 .f32) :
    k0_pay13 v162 v163 v165 v169 v171 v175 v177 v181 v183 v187
      = shapeCast S32x1 (multiReduction .add [1] S32 (k0_pay10 v162 v163 v165 v169 v171 v175 v177 v181 v183 v187)
          0x00000000#32 reduces_S32x256_S32 (.inl rfl) rfl) shapeCasts_S32_S32x1 := rfl

/-- What the point stores in the first result. -/
theorem point (c : Dev nD) (V0 : Valuation Cert.Reference5Ideal.τ Cert.Reference5Ideal.sig (Elt Ideal)) (h : Agree m c V0)
    (t : Fin cfg0.N) (y : S32x256.Idx) :
    k0_pay1
      (k0_pay10 (k0_pay14 (iblk m c 0 t) (iblk m c 1 t) (iblk m c 2 t) (iblk m c 3 t) (iblk m c 4 t) (iblk m c 5 t))
        (View.ld (iblk m c 1 t) r0_55) (View.ld (iblk m c 2 t) r0_56) (View.ld (iblk m c 1 t) r0_57)
        (View.ld (iblk m c 2 t) r0_58) (View.ld (iblk m c 1 t) r0_59) (View.ld (iblk m c 2 t) r0_60)
        (View.ld (iblk m c 1 t) r0_61) (View.ld (iblk m c 2 t) r0_62) (iblk m c 3 t))
      (k0_pay11 (iblk m c 4 t)) (k0_pay12 (iblk m c 5 t))
      (k0_pay13 (k0_pay14 (iblk m c 0 t) (iblk m c 1 t) (iblk m c 2 t) (iblk m c 3 t) (iblk m c 4 t) (iblk m c 5 t))
        (View.ld (iblk m c 1 t) r0_55) (View.ld (iblk m c 2 t) r0_56) (View.ld (iblk m c 1 t) r0_57)
        (View.ld (iblk m c 2 t) r0_58) (View.ld (iblk m c 1 t) r0_59) (View.ld (iblk m c 2 t) r0_60)
        (View.ld (iblk m c 1 t) r0_61) (View.ld (iblk m c 2 t) r0_62) (iblk m c 3 t))
      y = Cert.Taps.silu (Cert.Reference5Ideal.Value.res_main_v254 V0 (ix3 (y 0) 0 (y 1))) := by
  have ey : y = ix2 (y 0 : Fin 32) (y 1 : Fin 256) := by blk_ext
  have hr := rows m c V0 h t
  rw [pay13_eq]
  conv_lhs => rw [ey]
  have h4 : ∀ k : Fin 256, k0_pay11 (F := Ideal) (iblk m c 4 t) (ix2 0 k)
      = V0 (Proc.devRef .tc Cert.Reference5Ideal.main_arg4) (ix1 k) := by
    intro k
    refine Eq.trans ?_ ((blk4 m c t k).trans (congrFun h.2.2.2.2.1 (ix1 k)).symm); pointwise [k0_pay11]
  have h5 : ∀ k : Fin 256, k0_pay12 (F := Ideal) (iblk m c 5 t) (ix2 0 k)
      = V0 (Proc.devRef .tc Cert.Reference5Ideal.main_arg5) (ix1 k) := by
    intro k
    refine Eq.trans ?_ ((blk5 m c t k).trans (congrFun h.2.2.2.2.2 (ix1 k)).symm); pointwise [k0_pay12]
  exact norm_apply V0 _ _ _ (y 0) (y 1) hr (h4 _) (h5 _)

/-- The first result of the call: the reference's. -/
theorem final6 (c : Dev nD) (V0 : Valuation Cert.Reference5Ideal.τ Cert.Reference5Ideal.sig (Elt Ideal)) (h : Agree m c V0) :
    (dats m 0 c).arrAt 6 (cfgs 0).N = fun y => Cert.Taps.silu (Cert.Reference5Ideal.Value.res_main_v254 V0 (ix3 (y 0) 0 (y 1))) := by
  refine (dats m 0 c).arrAt_eq_of_covers 6 _ (by decide +kernel) fun t _ y => ?_
  have e : ((cfg0.win 6).blk t).view.emb y = y := by blk_ext [idx t]
  rw [e]
  blk_simp; rw [after0_6]; frame_out
  exact point m c V0 h t y

/-- The reference's first result. -/
theorem ref_out (V0 : Valuation Cert.Reference5Ideal.τ Cert.Reference5Ideal.sig (Elt Ideal)) :
    (shapeCast Cert.Reference5Ideal.S32x256 (mulf (Cert.Reference5Ideal.Value.res_main_v254 V0) (Host.divf (broadcastInDim Cert.Reference5Ideal.S32x1x256 ![]
        Cert.Reference5Ideal.Gen.bcast_S_S32x1x256 (constant Cert.Reference5Ideal.S_ .f32 0x3F800000#32))
      (addf (broadcastInDim Cert.Reference5Ideal.S32x1x256 ![] Cert.Reference5Ideal.Gen.bcast_S_S32x1x256
        (constant Cert.Reference5Ideal.S_ .f32 0x3F800000#32))
        (Host.exp (Host.negf (Cert.Reference5Ideal.Value.res_main_v254 V0))))))
      Cert.Reference5Ideal.Gen.shapeCasts_S32x1x256_S32x256 : FVec Ideal S32x256 .f32)
      = fun y => Cert.Taps.silu (Cert.Reference5Ideal.Value.res_main_v254 V0 (ix3 (y 0) 0 (y 1))) := by
  funext y
  have ey : y = ix2 (y 0 : Fin 32) (y 1 : Fin 256) := by blk_ext
  conv_lhs => rw [ey]
  pointwise
  simp only [Cert.Taps.silu, Ideal.logistic]

/-- The second result of the part: the state's rows after the first, then the newest row. -/
theorem ref_state (c : Dev nD) (V0 : Valuation Cert.Reference5Ideal.τ Cert.Reference5Ideal.sig (Elt Ideal)) (h : Agree m c V0) :
    concatenate S32x30x256 1 [⟨S32x29x256, extractStridedSlice S32x29x256 ![0, 1, 0] (m ((c : Thread nD τ).loc main_arg1)) slices_S32x30x256_S32x29x256_0_1_0⟩,
      ⟨S32x1x256, broadcastInDim S32x1x256 ![0, 2] bcast_S32x256_S32x1x256_0_2 (newest (m ((c : Thread nD τ).loc main_arg0)))⟩] concatenates_S32x29x256_S32x1x256_S32x30x256_d1
      = extractStridedSlice S32x30x256 ![0, 1, 0] (Cert.Reference5Ideal.Value.res_main_v11 V0) Cert.Reference5Ideal.Gen.slices_S32x31x256_S32x30x256_0_1_0 := by
  funext y
  have ey : y = ix3 (y 0 : Fin 32) (y 1 : Fin 30) (y 2 : Fin 256) := by blk_ext
  rw [ey]
  pointwise
  have h29 : (y 1 : ℕ) < 30 := (y 1).isLt
  split
  · rename_i hlt
    rw [← h.2.1]
    exact (full_init V0 (y 0) (⟨1 + (y 1 : ℕ), by omega⟩ : Fin 30) (y 2)).symm
  · rename_i hge
    rw [← h.1]
    have e30 : (⟨1 + (y 1 : ℕ), by omega⟩ : Fin 31) = 30 := Fin.ext (by change 1 + (y 1 : ℕ) = 30; omega)
    exact (full_last V0 (y 0) (y 2)).trans (congrArg (fun j : Fin 31 =>
      Cert.Reference5Ideal.Value.res_main_v11 V0 (ix3 (y 0 : Fin 32) j (y 2 : Fin 256))) e30.symm)

/-- What the lines after the region leave in the second result. -/
theorem W_v7 (c : Dev nD) : Pipeline.afterTail₀ cfgs (dats m) 0 (V0 m) [hostOps1] c main_v7
    = concatenate S32x30x256 1 [⟨S32x29x256, extractStridedSlice S32x29x256 ![0, 1, 0] (m ((c : Thread nD τ).loc main_arg1)) slices_S32x30x256_S32x29x256_0_1_0⟩,
      ⟨S32x1x256, broadcastInDim S32x1x256 ![0, 2] bcast_S32x256_S32x1x256_0_2 (newest (m ((c : Thread nD τ).loc main_arg0)))⟩] concatenates_S32x29x256_S32x1x256_S32x30x256_d1 := by
  unfold Pipeline.afterTail₀
  have e1 : Pipeline.withArrays spec0 c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have e2 : Pipeline.withArrays spec0 c (V0 m c) (fun w => (dats m 0 c).arrAt w (cfgs 0).N) (Proc.devRef .tc main_v4_1)
      = newest (m ((c : Thread nD τ).loc main_arg0)) :=
    (Pipeline.withArrays_arr spec0 (by decide) c (V0 m c) _ 7).trans (final7 m c)
  simp only [hostOps1, List.flatten_cons, List.flatten_nil, List.append_nil]
  after_results
  exact congrArg₂ (fun (a : FVec Ideal S32x30x256 .f32) (b : FVec Ideal S32x256 .f32) =>
    (concatenate S32x30x256 1 [⟨S32x29x256, extractStridedSlice S32x29x256 ![0, 1, 0] a slices_S32x30x256_S32x29x256_0_1_0⟩,
      ⟨S32x1x256, broadcastInDim S32x1x256 ![0, 2] bcast_S32x256_S32x1x256_0_2 b⟩]
      concatenates_S32x29x256_S32x1x256_S32x30x256_d1 : FVec Ideal S32x30x256 .f32)) e1 e2

/-- The two results of the part after the run, and the arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v4_0) = (dats m 0 c).arrAt 6 (cfgs 0).N
      ∧ r.2.mem ((c.tc : Thread nD τ).loc main_v7) = Pipeline.afterTail₀ cfgs (dats m) 0 (V0 m) [hostOps1] c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 6,
      (h.1 c).2 main_v7 (Pipeline.mem_restRefs_of main_v7 (by decide) (by decide)), h.2 c⟩)
    (θ_run_and (run_main m ρ) (unchanged m ρ))

end Cert.ConvSample

end
-- ==== Proof.Conv.lean ====
/-
  What the prompts' convolution computes: the gated rows go into a buffer behind the 32 rows before them, zeros at the start
  of a sequence and the rows that the grid point before left elsewhere; each output row is the 31 taps over that buffer, then
  layer normalization and the activation; and the last rows of each sequence are its new state.
-/
module

public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Taps
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Conv

open Cert.Kernel6Ideal Cert.Kernel6Ideal.Gen

/-! ## The reference -/

/-- The reference's rows before the normalization: the taps' products, plus the offset. -/
theorem ref_rows (V0 : Valuation Cert.Reference6Ideal.τ Cert.Reference6Ideal.sig (Elt Ideal)) (b : Fin 4) (s : Fin 4096) (k : Fin 256) :
    Cert.Reference6Ideal.Value.res_main_v230 V0 (ix3 b s k)
      = Cert.Taps.taps (fun j => Cert.Reference6Ideal.Value.res_main_v11 V0 (ix3 b (⟨j.val + s.val, by omega⟩ : Fin 4126) k))
          (fun j => V0 (Proc.devRef .tc Cert.Reference6Ideal.main_arg1) (ix2 j k))
        + V0 (Proc.devRef .tc Cert.Reference6Ideal.main_arg2) (ix1 k) := by
  pointwise [Cert.Reference6Ideal.Value.res_main_v230, Cert.Reference6Ideal.Value.res_main_v164, Cert.Reference6Ideal.Value.res_main_v87]
  rw [Cert.Taps.taps]
  have e : (⟨((0 : Fin 31) : ℕ) + s.val, by have := s.isLt; show 0 + s.val < 4126; omega⟩ : Fin 4126) = ⟨s.val, by omega⟩ :=
    Fin.ext (Nat.zero_add _)
  rw [e]
  rfl

/-- The rows before a sequence are zero. -/
theorem full_zero (V0 : Valuation Cert.Reference6Ideal.τ Cert.Reference6Ideal.sig (Elt Ideal)) (b : Fin 4) (s : Fin 4126) (k : Fin 256)
    (hs : s.val < 30) :
    Cert.Reference6Ideal.Value.res_main_v11 V0 (ix3 b s k) = (0 : EReal) := by
  pointwise [Cert.Reference6Ideal.Value.res_main_v11]
  rw [dif_pos hs]

/-- A gated row. -/
def gated (x : FVec Ideal Cert.Reference6Ideal.S16384x512 .f32) (r : Fin 16384) (k : Fin 256) : EReal :=
  x (ix2 r (⟨k.val, by omega⟩ : Fin 512)) * Ideal.logistic (x (ix2 r (⟨256 + k.val, by omega⟩ : Fin 512)))

/-- Then come its gated rows. -/
theorem full_new (V0 : Valuation Cert.Reference6Ideal.τ Cert.Reference6Ideal.sig (Elt Ideal)) (b : Fin 4) (s : Fin 4126) (k : Fin 256)
    (hs : 30 ≤ s.val) :
    Cert.Reference6Ideal.Value.res_main_v11 V0 (ix3 b s k)
      = gated (V0 (Proc.devRef .tc Cert.Reference6Ideal.main_arg0)) ⟨b.val * 4096 + (s.val - 30), by omega⟩ k := by
  pointwise [Cert.Reference6Ideal.Value.res_main_v11, Cert.Reference6Ideal.Value.res_main_v0]
  rw [dif_neg (by omega)]
  unfold gated
  simp only [Ideal.logistic]

/-! ## One chunk of 64 rows -/

/-- The taps' products added up, from zero. -/
def acc (l : Fin 31 → FVec Ideal S64x256 .f32) (w : Fin 31 → FVec Ideal S1x256 .f32) : FVec Ideal S64x256 .f32 :=
  addf (k0_pay49 (k0_pay8 (w 20)) (k0_pay8 (w 21)) (k0_pay8 (w 22)) (k0_pay8 (w 23)) (k0_pay8 (w 24)) (k0_pay8 (w 25)) (k0_pay8 (w 26))
    (k0_pay8 (w 27)) (k0_pay8 (w 28)) (k0_pay8 (w 29))
    (k0_pay48 (k0_pay8 (w 10)) (k0_pay8 (w 11)) (k0_pay8 (w 12)) (k0_pay8 (w 13)) (k0_pay8 (w 14)) (k0_pay8 (w 15)) (k0_pay8 (w 16))
      (k0_pay8 (w 17)) (k0_pay8 (w 18)) (k0_pay8 (w 19))
      (k0_pay47 (k0_pay8 (w 0)) (k0_pay8 (w 1)) (k0_pay8 (w 2)) (k0_pay8 (w 3)) (k0_pay8 (w 4)) (k0_pay8 (w 5)) (k0_pay8 (w 6))
        (k0_pay8 (w 7)) (k0_pay8 (w 8)) (k0_pay8 (w 9)) k0_pay46
        (l 0) (l 1) (l 2) (l 3) (l 4) (l 5) (l 6) (l 7) (l 8) (l 9))
      (l 10) (l 11) (l 12) (l 13) (l 14) (l 15) (l 16) (l 17) (l 18) (l 19))
    (l 20) (l 21) (l 22) (l 23) (l 24) (l 25) (l 26) (l 27) (l 28) (l 29))
    (mulf (l 30) (broadcastTo S64x256 (k0_pay8 (w 30)) broadcasts_S1x256_S64x256))

theorem acc_apply (l : Fin 31 → FVec Ideal S64x256 .f32) (w : Fin 31 → FVec Ideal S1x256 .f32) (r : Fin 64) (k : Fin 256) :
    acc l w (ix2 r k) = Cert.Taps.taps (fun j => l j (ix2 r k)) (fun j => w j (ix2 0 k)) := by
  pointwise [acc, k0_pay49, k0_pay48, k0_pay47, k0_pay46, k0_pay8]
  rw [Cert.Taps.taps]

/-- The chunk whose first tap reads the buffer from row `o`. -/
def chunk (U : Vec Ideal S544x256 .f32) (x1 : Vec Ideal S31x256 .f32) (x2 x3 x4 : Vec Ideal S1x256 .f32) (o : ℕ) (ho : o + 94 ≤ 544) :
    FVec Ideal S64x256 .f32 :=
  k0_pay55 (acc
    (fun j => View.ld U (Rect.unit (s := S544x256) ![o + j.val, 0] S64x256.size
      (Fin.forall_fin_two.2 ⟨by show o + j.val + 64 ≤ 544; omega, by show 0 + 256 ≤ 256; omega⟩)))
    (fun j => View.ld x1 (Rect.unit (s := S31x256) ![j.val, 0] S1x256.size
      (Fin.forall_fin_two.2 ⟨by show j.val + 1 ≤ 31; omega, by show 0 + 256 ≤ 256; omega⟩)))) x2 x3 x4

/-- The normalization and the activation, from rows that agree. -/
theorem norm_apply (V0 : Valuation Cert.Reference6Ideal.τ Cert.Reference6Ideal.sig (Elt Ideal))
    (A : FVec Ideal S64x256 .f32) (x2 x3 x4 : FVec Ideal S1x256 .f32) (b : Fin 4) (s : Fin 4096) (r : Fin 64) (k : Fin 256)
    (hA : ∀ k : Fin 256, A (ix2 r k) + x2 (ix2 0 k) = Cert.Reference6Ideal.Value.res_main_v230 V0 (ix3 b s k))
    (h3 : x3 (ix2 0 k) = V0 (Proc.devRef .tc Cert.Reference6Ideal.main_arg3) (ix1 k))
    (h4 : x4 (ix2 0 k) = V0 (Proc.devRef .tc Cert.Reference6Ideal.main_arg4) (ix1 k)) :
    k0_pay55 A x2 x3 x4 (ix2 r k) = Cert.Taps.silu (Cert.Reference6Ideal.Value.res_main_v254 V0 (ix3 b s k)) := by
  pointwise [k0_pay55, Cert.Reference6Ideal.Value.res_main_v254, Cert.Reference6Ideal.Value.res_main_v236, Cert.Reference6Ideal.Value.res_main_v234]
  simp only [hA, h3, h4, Cert.Taps.silu]

/-! ## The buffer -/

/-- The buffer of a grid point: the rows before it, then its gated rows. -/
def ubuf (h : FVec Ideal S32x256 .f32) (x0 : Vec Ideal S512x512 .f32) : Vec Ideal S544x256 .f32 :=
  View.canon [⟨Rect.unit (s := S544x256) ![32, 0] S512x256.size inb_S544x256_S512x256_32_0,
      k0_pay7 (View.ld x0 (Rect.unit (s := S512x512) ![0, 0] S512x256.size inb_S512x512_S512x256_0_0))
        (View.ld x0 (Rect.unit (s := S512x512) ![0, 256] S512x256.size inb_S512x512_S512x256_0_256))⟩,
    ⟨Rect.unit (s := S544x256) ![0, 0] S32x256.size inb_S544x256_S32x256_0_0, h⟩]

theorem ubuf_old (h : FVec Ideal S32x256 .f32) (x0 : Vec Ideal S512x512 .f32) (r : Fin 544) (k : Fin 256) (hr : r.val < 32) :
    ubuf h x0 (ix2 r k) = h (ix2 (⟨r.val, hr⟩ : Fin 32) k) := by
  rw [ubuf, View.canon_cons_of_not_mem]
  · have e : (ix2 r k : S544x256.Idx) = (Rect.unit (s := S544x256) ![0, 0] S32x256.size inb_S544x256_S32x256_0_0).emb (ix2 (⟨r.val, hr⟩ : Fin 32) k) := by
      funext a; fin_cases a <;> apply Fin.ext <;> simp [Rect.emb, Rect.unit, ix2]
    rw [e, View.canon_cons_emb]
  · rw [Rect.mem_set_unit]
    intro hh
    have h0 : 32 ≤ r.val ∧ r.val < 32 + 512 := hh 0
    omega

theorem ubuf_new (h : FVec Ideal S32x256 .f32) (x0 : Vec Ideal S512x512 .f32) (r : Fin 544) (k : Fin 256) (hr : 32 ≤ r.val) :
    ubuf h x0 (ix2 r k) = x0 (ix2 (⟨r.val - 32, by omega⟩ : Fin 512) (⟨k.val, by omega⟩ : Fin 512))
      * Ideal.logistic (x0 (ix2 (⟨r.val - 32, by omega⟩ : Fin 512) (⟨256 + k.val, by omega⟩ : Fin 512))) := by
  have e : (ix2 r k : S544x256.Idx) = (Rect.unit (s := S544x256) ![32, 0] S512x256.size inb_S544x256_S512x256_32_0).emb
      (ix2 (⟨r.val - 32, by omega⟩ : Fin 512) k) := by
    funext a; fin_cases a <;> apply Fin.ext <;> simp [Rect.emb, Rect.unit, ix2] <;> omega
  rw [ubuf, e, View.canon_cons_emb]
  pointwise [k0_pay7, k0_pay6]

/-- A chunk's row, from a buffer that holds the reference's rows. -/
theorem chunk_apply (V0 : Valuation Cert.Reference6Ideal.τ Cert.Reference6Ideal.sig (Elt Ideal))
    (U : Vec Ideal S544x256 .f32) (x1 : Vec Ideal S31x256 .f32) (x2 x3 x4 : Vec Ideal S1x256 .f32) (o : ℕ) (ho : o + 94 ≤ 544)
    (b : Fin 4) (s : ℕ) (r : Fin 64) (k : Fin 256) (hs : s + r.val < 4096)
    (hU : ∀ (j : Fin 31) (k : Fin 256), U (ix2 (⟨o + j.val + r.val, by omega⟩ : Fin 544) k)
      = Cert.Reference6Ideal.Value.res_main_v11 V0 (ix3 b (⟨j.val + (s + r.val), by omega⟩ : Fin 4126) k))
    (h1 : ∀ (j : Fin 31) (k : Fin 256), x1 (ix2 j k) = V0 (Proc.devRef .tc Cert.Reference6Ideal.main_arg1) (ix2 j k))
    (h2 : ∀ k : Fin 256, x2 (ix2 0 k) = V0 (Proc.devRef .tc Cert.Reference6Ideal.main_arg2) (ix1 k))
    (h3 : ∀ k : Fin 256, x3 (ix2 0 k) = V0 (Proc.devRef .tc Cert.Reference6Ideal.main_arg3) (ix1 k))
    (h4 : ∀ k : Fin 256, x4 (ix2 0 k) = V0 (Proc.devRef .tc Cert.Reference6Ideal.main_arg4) (ix1 k)) :
    chunk U x1 x2 x3 x4 o ho (ix2 r k)
      = Cert.Taps.silu (Cert.Reference6Ideal.Value.res_main_v254 V0 (ix3 b (⟨s + r.val, hs⟩ : Fin 4096) k)) := by
  refine norm_apply V0 _ x2 x3 x4 b ⟨s + r.val, hs⟩ r k (fun k => ?_) (h3 k) (h4 k)
  rw [acc_apply]
  refine Eq.trans ?_ (ref_rows V0 b ⟨s + r.val, hs⟩ k).symm
  refine congrArg₂ (fun a b : EReal => a + b) (congrArg₂ Cert.Taps.taps (funext fun j => ?_) (funext fun j => ?_)) (h2 k)
  · refine Eq.trans ?_ (hU j k)
    refine congrArg U ?_
    funext a; fin_cases a <;> apply Fin.ext <;> simp [Rect.emb, Rect.unit, ix2]
  · refine Eq.trans ?_ (h1 j k)
    refine congrArg x1 ?_
    funext a; fin_cases a <;> apply Fin.ext <;> simp [Rect.emb, Rect.unit, ix2]

/-- A load of a part of a buffer held at its pieces. -/
theorem readCov_ld {sig : RefSig} {κ : Kind} {sp : Space} {S : Shape} {e : EltTy} (v : View sig κ sp S e)
    (L : List (View.Piece (Elt Ideal) S e)) (r : Rect S) :
    v.readCov L r.toLoadRect = View.ld (View.canon L) r := by
  rw [View.readCov_eq_canon']

variable (m : (ℓ : Loc nD τ sig) → Buf (Elt Ideal) ℓ)

theorem sA (c : Dev nD) (t : Fin cfg0.N) (h0 : t.val % 8 = 0) :
    (outsAt0 m c t.val t.isLt).2.2 = ubuf (k0_pay4 (F := Ideal)) (iblk m c 0 t) := by
  rw [outsAt0_A m c t h0 (by omega) (by omega)]; frame_out

/-- The rows that the point before left at the end of the buffer. -/
def carried (U : Vec Ideal S544x256 .f32) : FVec Ideal S32x256 .f32 :=
  k0_pay5 (View.ld U (Rect.unit (s := S544x256) ![512, 0] S32x256.size inb_S544x256_S32x256_512_0))

theorem sB (c : Dev nD) (t : Fin cfg0.N) (h0 : ¬t.val % 8 = 0) :
    (outsAt0 m c t.val t.isLt).2.2
      = ubuf (carried (outsAt0 m c (t.val - 1) (Nat.lt_of_le_of_lt (Nat.sub_le _ _) t.isLt)).2.2) (iblk m c 0 t) := by
  by_cases h2 : t.val % 8 = 7
  · rw [outsAt0_C m c t h0 (by omega) h2]; frame_out
    exact congrArg (fun z => ubuf (carried z) (iblk m c 0 t)) (Memref.IsWhole.read_unread _ _)
  · rw [outsAt0_B m c t h0 (by omega) h2]; frame_out
    exact congrArg (fun z => ubuf (carried z) (iblk m c 0 t)) (Memref.IsWhole.read_unread _ _)

theorem oA (c : Dev nD) (t : Fin cfg0.N) (h0 : t.val % 8 = 0) (y : S512x256.Idx) (v : EReal)
    (h : ∀ (n : Fin 8) (x : S64x256.Idx), (y 0 : ℕ) = 64 * n.val + (x 0 : ℕ) → (y 1 : ℕ) = (x 1 : ℕ) →
      chunk (outsAt0 m c t.val t.isLt).2.2 (iblk m c 1 t) (iblk m c 2 t) (iblk m c 3 t) (iblk m c 4 t) (64 * n.val + 2) (by omega) x = v) :
    (outsAt0 m c t.val t.isLt).1 y = v := by
  rw [sA m c t h0] at h
  rw [outsAt0_A m c t h0 (by omega) (by omega)]; frame_out
  simp only [readCov_ld]
  canon_tiles x hx
  · exact h 7 x hx0 hx1
  · exact h 6 x hx0 hx1
  · exact h 5 x hx0 hx1
  · exact h 4 x hx0 hx1
  · exact h 3 x hx0 hx1
  · exact h 2 x hx0 hx1
  · exact h 1 x hx0 hx1
  · exact h 0 x (hx0.trans (Nat.zero_add _).symm) hx1

theorem read_unread (z : Vec Ideal S544x256 .f32) :
    View.read (Elt Ideal) (View.whole cc0_scratch0) ((Memref.isWhole_whole cc0_scratch0 : (Memref.whole cc0_scratch0).IsWhole).unread z) = z :=
  Memref.IsWhole.read_unread _ _

theorem oB (c : Dev nD) (t : Fin cfg0.N) (h0 : ¬t.val % 8 = 0) (y : S512x256.Idx) (v : EReal)
    (h : ∀ (n : Fin 8) (x : S64x256.Idx), (y 0 : ℕ) = 64 * n.val + (x 0 : ℕ) → (y 1 : ℕ) = (x 1 : ℕ) →
      chunk (outsAt0 m c t.val t.isLt).2.2 (iblk m c 1 t) (iblk m c 2 t) (iblk m c 3 t) (iblk m c 4 t) (64 * n.val + 2) (by omega) x = v) :
    (outsAt0 m c t.val t.isLt).1 y = v := by
  rw [sB m c t h0] at h
  by_cases h2 : t.val % 8 = 7
  · rw [outsAt0_C m c t h0 (by omega) h2]; frame_out
    simp only [readCov_ld, read_unread]
    canon_tiles x hx
    · exact h 7 x hx0 hx1
    · exact h 6 x hx0 hx1
    · exact h 5 x hx0 hx1
    · exact h 4 x hx0 hx1
    · exact h 3 x hx0 hx1
    · exact h 2 x hx0 hx1
    · exact h 1 x hx0 hx1
    · exact h 0 x (hx0.trans (Nat.zero_add _).symm) hx1
  · rw [outsAt0_B m c t h0 (by omega) h2]; frame_out
    simp only [readCov_ld, read_unread]
    canon_tiles x hx
    · exact h 7 x hx0 hx1
    · exact h 6 x hx0 hx1
    · exact h 5 x hx0 hx1
    · exact h 4 x hx0 hx1
    · exact h 3 x hx0 hx1
    · exact h 2 x hx0 hx1
    · exact h 1 x hx0 hx1
    · exact h 0 x (hx0.trans (Nat.zero_add _).symm) hx1

/-- A buffer stored whole holds what was stored. -/
theorem canon_tail (u : Vec Ideal S32x256 .f32) :
    View.canon (Val := Elt Ideal) (e := .f32) [⟨Rect.unit (s := S32x256) ![0, 0] S32x256.size inb_S32x256_S32x256_0_0, u⟩] = (u : Vec Ideal S32x256 .f32) := by
  funext x
  have e : x = (Rect.unit (s := S32x256) ![0, 0] S32x256.size inb_S32x256_S32x256_0_0).emb x := by
    funext a; fin_cases a <;> apply Fin.ext <;> simp [Rect.emb, Rect.unit]
  conv_lhs => rw [e]
  rw [View.canon_cons_emb]

/-- The last gated rows of a block. -/
def lastRows (x0 : Vec Ideal S512x512 .f32) (j : Fin 30) (k : Fin 256) : EReal :=
  x0 (ix2 (⟨482 + j.val, by omega⟩ : Fin 512) (⟨k.val, by omega⟩ : Fin 512))
    * Ideal.logistic (x0 (ix2 (⟨482 + j.val, by omega⟩ : Fin 512) (⟨256 + k.val, by omega⟩ : Fin 512)))

/-- The state that the last point of a sequence stores: the last rows of its block, gated. -/
theorem o6 (c : Dev nD) (t : Fin cfg0.N) (h2 : t.val % 8 = 7) (z : Fin 1) (j : Fin 30) (k : Fin 256) :
    (outsAt0 m c t.val t.isLt).2.1 (ix3 z j k) = lastRows (iblk m c 0 t) j k := by
  rw [outsAt0_C m c t (by omega) (by omega) h2]; frame_out
  simp only [readCov_ld]
  pointwise [k0_pay3, lastRows]
  refine (congrFun (canon_tail _) _).trans ?_
  pointwise [k0_pay2, k0_pay6]
  have e : (⟨480 + (2 + j.val), by omega⟩ : Fin 512) = ⟨482 + j.val, by omega⟩ := Fin.ext (by
    show 480 + (2 + j.val) = 482 + j.val
    omega)
  rw [e]

/-! ## The blocks -/

/-- The reference's launch contents hold the kernel's arguments. -/
def Agree (c : Dev nD) (V0 : Valuation Cert.Reference6Ideal.τ Cert.Reference6Ideal.sig (Elt Ideal)) : Prop :=
  (V0 (Proc.devRef .tc Cert.Reference6Ideal.main_arg0) : FVec Ideal S16384x512 .f32) = m ((c : Thread nD τ).loc main_arg0)
  ∧ (V0 (Proc.devRef .tc Cert.Reference6Ideal.main_arg1) : FVec Ideal S31x256 .f32) = m ((c : Thread nD τ).loc main_arg1)
  ∧ (V0 (Proc.devRef .tc Cert.Reference6Ideal.main_arg2) : FVec Ideal S256 .f32) = m ((c : Thread nD τ).loc main_arg2)
  ∧ (V0 (Proc.devRef .tc Cert.Reference6Ideal.main_arg3) : FVec Ideal S256 .f32) = m ((c : Thread nD τ).loc main_arg3)
  ∧ (V0 (Proc.devRef .tc Cert.Reference6Ideal.main_arg4) : FVec Ideal S256 .f32) = m ((c : Thread nD τ).loc main_arg4)

/-- Which block each window is on: the rows' and the first result's own, the state's one per sequence, the others whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val / 8, 0, 0] :=
  (by decide +kernel : ∀ t : Fin grid0.N, _)

/-- The offset, as one row. -/
theorem V_v0 (c : Dev nD) : V m c main_v0
    = shapeCast S1x256 (m ((c : Thread nD τ).loc main_arg2)) shapeCasts_S256_S1x256 := by
  simp only [V, hostOps0]
  after_results
  rfl

/-- The gain, as one row. -/
theorem V_v1 (c : Dev nD) : V m c main_v1
    = shapeCast S1x256 (m ((c : Thread nD τ).loc main_arg3)) shapeCasts_S256_S1x256 := by
  simp only [V, hostOps0]
  after_results
  rfl

/-- The normalization's offset, as one row. -/
theorem V_v2 (c : Dev nD) : V m c main_v2
    = shapeCast S1x256 (m ((c : Thread nD τ).loc main_arg4)) shapeCasts_S256_S1x256 := by
  simp only [V, hostOps0]
  after_results
  rfl

theorem points (t : Fin cfg0.N) : t.val < 32 := lt_of_lt_of_eq t.isLt (show cfg0.N = 32 from N_0)

theorem blk0 (c : Dev nD) (t : Fin cfg0.N) (r k : Fin 512) :
    (iblk m c 0 t : Vec Ideal S512x512 .f32) (ix2 r k)
      = m ((c : Thread nD τ).loc main_arg0) (ix2 (⟨512 * t.val + r.val, by have := points t; omega⟩ : Fin 16384) k) := by
  blk_point [iblk, V, idx t]

theorem blk1 (c : Dev nD) (t : Fin cfg0.N) : iblk m c 1 t = m ((c : Thread nD τ).loc main_arg1) := by
  funext x; blk_point [iblk, V, idx t]

theorem blk2 (c : Dev nD) (t : Fin cfg0.N) (k : Fin 256) :
    (iblk m c 2 t : Vec Ideal S1x256 .f32) (ix2 0 k) = m ((c : Thread nD τ).loc main_arg2) (ix1 k) := by
  have e : iblk m c 2 t = V m c main_v0 := by funext x; blk_point [iblk, idx t]
  rw [e, V_v0]; pointwise

theorem blk3 (c : Dev nD) (t : Fin cfg0.N) (k : Fin 256) :
    (iblk m c 3 t : Vec Ideal S1x256 .f32) (ix2 0 k) = m ((c : Thread nD τ).loc main_arg3) (ix1 k) := by
  have e : iblk m c 3 t = V m c main_v1 := by funext x; blk_point [iblk, idx t]
  rw [e, V_v1]; pointwise

theorem blk4 (c : Dev nD) (t : Fin cfg0.N) (k : Fin 256) :
    (iblk m c 4 t : Vec Ideal S1x256 .f32) (ix2 0 k) = m ((c : Thread nD τ).loc main_arg4) (ix1 k) := by
  have e : iblk m c 4 t = V m c main_v2 := by funext x; blk_point [iblk, idx t]
  rw [e, V_v2]; pointwise

/-! ## The buffer holds the reference's rows -/

section

variable (c : Dev nD) (V0 : Valuation Cert.Reference6Ideal.τ Cert.Reference6Ideal.sig (Elt Ideal)) (h : Agree m c V0)

include h

/-- The gated row of a block is the reference's row. -/
theorem gated_row (t : Fin cfg0.N) (r : Fin 512) (k : Fin 256) (b : Fin 4) (s : Fin 4126)
    (hb : b.val = t.val / 8) (hs : s.val = 512 * (t.val % 8) + r.val + 30) :
    (fun x0 : Vec Ideal S512x512 .f32 => x0 (ix2 r (⟨k.val, by omega⟩ : Fin 512))
      * Ideal.logistic (x0 (ix2 r (⟨256 + k.val, by omega⟩ : Fin 512)))) (iblk m c 0 t)
    = Cert.Reference6Ideal.Value.res_main_v11 V0 (ix3 b s k) := by
  have hN := points t
  refine Eq.trans ?_ (full_new V0 b s k (by omega)).symm
  rw [h.1]
  have e : (⟨b.val * 4096 + (s.val - 30), by omega⟩ : Fin 16384) = ⟨512 * t.val + r.val, by omega⟩ := Fin.ext (by
    show b.val * 4096 + (s.val - 30) = 512 * t.val + r.val
    omega)
  rw [e]
  exact congrArg₂ (fun a b : EReal => a * Ideal.logistic b) (blk0 m c t r _) (blk0 m c t r _)

/-- The rows of the point itself. -/
theorem rows_new (t : Fin cfg0.N) (r : Fin 544) (k : Fin 256) (hr : 32 ≤ r.val) (b : Fin 4) (s : Fin 4126)
    (hb : b.val = t.val / 8) (hs : s.val + 2 = 512 * (t.val % 8) + r.val) :
    (outsAt0 m c t.val t.isLt).2.2 (ix2 r k) = Cert.Reference6Ideal.Value.res_main_v11 V0 (ix3 b s k) := by
  refine Eq.trans ?_ (gated_row m c V0 h t ⟨r.val - 32, by omega⟩ k b s hb (by show s.val = 512 * (t.val % 8) + (r.val - 32) + 30; omega))
  by_cases h0 : t.val % 8 = 0
  · rw [sA m c t h0, ubuf_new _ _ r k hr]
  · rw [sB m c t h0, ubuf_new _ _ r k hr]

/-- Every row that a tap reads. -/
theorem rows (t : Fin cfg0.N) (r : Fin 544) (k : Fin 256) (hr : 2 ≤ r.val) (b : Fin 4) (s : Fin 4126)
    (hb : b.val = t.val / 8) (hs : s.val + 2 = 512 * (t.val % 8) + r.val) :
    (outsAt0 m c t.val t.isLt).2.2 (ix2 r k) = Cert.Reference6Ideal.Value.res_main_v11 V0 (ix3 b s k) := by
  by_cases hlt : r.val < 32
  · by_cases h0 : t.val % 8 = 0
    · rw [sA m c t h0, ubuf_old _ _ r k hlt]
      refine Eq.trans ?_ (full_zero V0 b s k (by omega)).symm
      pointwise [k0_pay4]
    · rw [sB m c t h0, ubuf_old _ _ r k hlt]
      have hp : t.val - 1 < cfg0.N := lt_of_le_of_lt (Nat.sub_le _ _) t.isLt
      refine Eq.trans ?_ (rows_new m c V0 h ⟨t.val - 1, hp⟩ ⟨512 + r.val, by omega⟩ k (by show 32 ≤ 512 + r.val; omega) b s
        (by show b.val = (t.val - 1) / 8; omega) (by show s.val + 2 = 512 * ((t.val - 1) % 8) + (512 + r.val); omega))
      pointwise [carried, k0_pay5]
  · exact rows_new m c V0 h t r k (by omega) b s hb hs

/-- Each row of a point's first result. -/
theorem point (t : Fin cfg0.N) (y : S512x256.Idx) (b : Fin 4) (s : Fin 4096)
    (hb : b.val = t.val / 8) (hs : s.val = 512 * (t.val % 8) + (y 0 : ℕ)) :
    (outsAt0 m c t.val t.isLt).1 y = Cert.Taps.silu (Cert.Reference6Ideal.Value.res_main_v254 V0 (ix3 b s (y 1 : Fin 256))) := by
  have hN := points t
  have hc : ∀ (n : Fin 8) (x : S64x256.Idx), (y 0 : ℕ) = 64 * n.val + (x 0 : ℕ) → (y 1 : ℕ) = (x 1 : ℕ) →
      chunk (outsAt0 m c t.val t.isLt).2.2 (iblk m c 1 t) (iblk m c 2 t) (iblk m c 3 t) (iblk m c 4 t) (64 * n.val + 2) (by omega) x
        = Cert.Taps.silu (Cert.Reference6Ideal.Value.res_main_v254 V0 (ix3 b s (y 1 : Fin 256))) := by
    intro n x hx0 hx1
    have hy0 : (y 0 : ℕ) < 512 := (y 0).isLt
    have hx64 : (x 0 : ℕ) < 64 := (x 0).isLt
    have ex : x = ix2 (x 0 : Fin 64) (x 1 : Fin 256) := by blk_ext
    have e1 : (x 1 : Fin 256) = (y 1 : Fin 256) := Fin.ext hx1.symm
    have es : (⟨512 * (t.val % 8) + 64 * n.val + (x 0 : ℕ), by omega⟩ : Fin 4096) = s := Fin.ext (by
      show 512 * (t.val % 8) + 64 * n.val + (x 0 : ℕ) = s.val
      omega)
    conv_lhs => rw [ex]
    refine (chunk_apply V0 _ _ _ _ _ (64 * n.val + 2) (by omega) b (512 * (t.val % 8) + 64 * n.val) (x 0 : Fin 64) (x 1 : Fin 256)
      (by omega) (fun j k => ?_) (fun j k => ?_) (fun k => ?_) (fun k => ?_) (fun k => ?_)).trans ?_
    · exact rows m c V0 h t _ k (by show 2 ≤ 64 * n.val + 2 + j.val + (x 0 : ℕ); omega) b _ hb
        (by show j.val + (512 * (t.val % 8) + 64 * n.val + (x 0 : ℕ)) + 2 = 512 * (t.val % 8) + (64 * n.val + 2 + j.val + (x 0 : ℕ)); omega)
    · rw [blk1]; exact (congrFun h.2.1 (ix2 j k)).symm
    · exact (blk2 m c t k).trans (congrFun h.2.2.1 (ix1 k)).symm
    · exact (blk3 m c t k).trans (congrFun h.2.2.2.1 (ix1 k)).symm
    · exact (blk4 m c t k).trans (congrFun h.2.2.2.2 (ix1 k)).symm
    · rw [es, e1]
  by_cases h0 : t.val % 8 = 0
  · exact oA m c t h0 y _ hc
  · exact oB m c t h0 y _ hc

/-- The first result of the call: the reference's. -/
theorem final5 : (dats m 0 c).arrAt 5 (cfgs 0).N = fun y : S16384x256.Idx =>
    Cert.Taps.silu (Cert.Reference6Ideal.Value.res_main_v254 V0 (ix3 (⟨(y 0 : ℕ) / 4096, by have : (y 0 : ℕ) < 16384 := (y 0).isLt; omega⟩ : Fin 4)
      (⟨(y 0 : ℕ) % 4096, by omega⟩ : Fin 4096) (y 1 : Fin 256))) := by
  refine (dats m 0 c).arrAt_eq_of_covers 5 _ (by decide +kernel) fun t _ y => ?_
  have hN := points t
  have hy0 : (y 0 : ℕ) < 512 := (y 0).isLt
  have e : ((cfg0.win 5).blk t).view.emb y = ix2 (⟨512 * t.val + (y 0 : ℕ), by omega⟩ : Fin 16384) (y 1 : Fin 256) := by blk_ext [idx t]
  rw [e]
  blk_simp; rw [after0_5]
  exact point m c V0 h t y _ _ (by show (512 * t.val + (y 0 : ℕ)) / 4096 = t.val / 8; omega)
    (by show (512 * t.val + (y 0 : ℕ)) % 4096 = 512 * (t.val % 8) + (y 0 : ℕ); omega)

/-- The second result of the call: the reference's rows at the end of each sequence. -/
theorem final6 : (dats m 0 c).arrAt 6 (cfgs 0).N = fun y : S4x30x256.Idx =>
    (Cert.Reference6Ideal.Value.res_main_v11 V0 (ix3 (y 0 : Fin 4) (⟨4096 + (y 1 : ℕ), by have : (y 1 : ℕ) < 30 := (y 1).isLt; omega⟩ : Fin 4126) (y 2 : Fin 256)) : EReal) := by
  refine (dats m 0 c).arrAt_eq_of_covers 6 _ (by decide +kernel) fun t hf y => ?_
  have hN := points t
  have h2 : t.val % 8 = 7 := (flush0_6 t).mp hf
  have hy0 : (y 0 : ℕ) < 1 := (y 0).isLt
  have hy1 : (y 1 : ℕ) < 30 := (y 1).isLt
  have e : ((cfg0.win 6).blk t).view.emb y = ix3 (⟨t.val / 8, by omega⟩ : Fin 4) (y 1 : Fin 30) (y 2 : Fin 256) := by blk_ext [idx t]
  have ey : y = ix3 (y 0 : Fin 1) (y 1 : Fin 30) (y 2 : Fin 256) := by blk_ext
  rw [e]
  blk_simp; rw [after0_6]
  conv_lhs => rw [ey]
  refine (o6 m c t h2 _ _ _).trans ?_
  exact gated_row m c V0 h t ⟨482 + (y 1 : ℕ), by omega⟩ (y 2 : Fin 256) ⟨t.val / 8, by omega⟩ ⟨4096 + (y 1 : ℕ), by omega⟩ rfl
    (by show 4096 + (y 1 : ℕ) = 512 * (t.val % 8) + (482 + (y 1 : ℕ)) + 30; omega)

end

/-- The reference's first result. -/
theorem ref_out (V0 : Valuation Cert.Reference6Ideal.τ Cert.Reference6Ideal.sig (Elt Ideal)) :
    (shapeCast Cert.Reference6Ideal.S16384x256 (mulf (Cert.Reference6Ideal.Value.res_main_v254 V0) (Host.divf (broadcastInDim Cert.Reference6Ideal.S4x4096x256 ![]
        Cert.Reference6Ideal.Gen.bcast_S_S4x4096x256 (constant Cert.Reference6Ideal.S_ .f32 0x3F800000#32))
      (addf (broadcastInDim Cert.Reference6Ideal.S4x4096x256 ![] Cert.Reference6Ideal.Gen.bcast_S_S4x4096x256
        (constant Cert.Reference6Ideal.S_ .f32 0x3F800000#32))
        (Host.exp (Host.negf (Cert.Reference6Ideal.Value.res_main_v254 V0))))))
      Cert.Reference6Ideal.Gen.shapeCasts_S4x4096x256_S16384x256 : FVec Ideal S16384x256 .f32)
      = fun y : S16384x256.Idx =>
    Cert.Taps.silu (Cert.Reference6Ideal.Value.res_main_v254 V0 (ix3 (⟨(y 0 : ℕ) / 4096, by have : (y 0 : ℕ) < 16384 := (y 0).isLt; omega⟩ : Fin 4)
      (⟨(y 0 : ℕ) % 4096, by omega⟩ : Fin 4096) (y 1 : Fin 256))) := by
  funext y
  have ey : y = ix2 (y 0 : Fin 16384) (y 1 : Fin 256) := by blk_ext
  conv_lhs => rw [ey]
  pointwise
  simp only [Cert.Taps.silu, Ideal.logistic]

/-- The reference's second result. -/
theorem ref_state (V0 : Valuation Cert.Reference6Ideal.τ Cert.Reference6Ideal.sig (Elt Ideal)) :
    (extractStridedSlice Cert.Reference6Ideal.S4x30x256 ![0, 4096, 0] (Cert.Reference6Ideal.Value.res_main_v11 V0)
      Cert.Reference6Ideal.Gen.slices_S4x4126x256_S4x30x256_0_4096_0 : FVec Ideal S4x30x256 .f32)
    = fun y : S4x30x256.Idx =>
    (Cert.Reference6Ideal.Value.res_main_v11 V0 (ix3 (y 0 : Fin 4) (⟨4096 + (y 1 : ℕ), by have : (y 1 : ℕ) < 30 := (y 1).isLt; omega⟩ : Fin 4126) (y 2 : Fin 256)) : EReal) := by
  funext y
  have ey : y = ix3 (y 0 : Fin 4) (y 1 : Fin 30) (y 2 : Fin 256) := by blk_ext
  conv_lhs => rw [ey]
  pointwise

/-- The two results of the part after the run, and the arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v3_0) = (dats m 0 c).arrAt 5 (cfgs 0).N
      ∧ r.2.mem ((c.tc : Thread nD τ).loc main_v3_1) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, h.2 c⟩)
    (θ_run_and (run_main m ρ) (unchanged m ρ))

end Cert.Conv

end
-- ==== Proof.lean ====
/- The proof of the certificate's claims (Defs.lean): the differential attention, the input projection (of the prompts and
   of the samples), the gated merge, the convolution (of the prompts and of the samples) and the routed experts of one layer,
   each against its plain jnp mathematics.
   Own modules: Pinned (what the preconditions say of the launch memory), InProj, InProjSample, Merge, Taps, ConvSample, Conv
   (the values of those calls); AnyBits, AnyIdeal (the experts' frame over any tables), Sched (the tables of a launch memory),
   ExpertsRef, Experts (the experts' values). -/
module

public import proofs.«01_k».proof.Proof.Sched
public import proofs.«01_k».proof.Proof.Experts
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_tables
public import proofs.«01_k».proof.Proof.Gen.Pre_tables_and_bias
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Pre_experts
public import proofs.«01_k».proof.Proof.Pinned
public import proofs.«01_k».proof.Proof.InProj
public import proofs.«01_k».proof.Proof.Merge
public import proofs.«01_k».proof.Proof.InProjSample
public import proofs.«01_k».proof.Proof.ConvSample
public import proofs.«01_k».proof.Proof.Conv
public import Idealize.ShloMosaic.Lib.Pipeline.ValueKit
public import Idealize.ShloMosaic.Adequacy
public import Idealize.ShloMosaic.Init

@[expose] public section

noncomputable section

namespace Cert.Proof

open Idealize.ShloMosaic Idealize.SL.Sem Cert.Kernel

/-- The reference declares no semaphore. -/
theorem no_sem1 (x : SemLoc Cert.ReferenceIdeal.sig) : False := by
  rcases x with s | s <;> exact s.elim0

/-- The reference declares no semaphore. -/
theorem no_sem2 (x : SemLoc Cert.Reference2Ideal.sig) : False := by
  rcases x with s | s <;> exact s.elim0

/-- The reference declares no semaphore. -/
theorem no_sem3 (x : SemLoc Cert.Reference3Ideal.sig) : False := by
  rcases x with s | s <;> exact s.elim0

/-- The reference declares no semaphore. -/
theorem no_sem4 (x : SemLoc Cert.Reference4Ideal.sig) : False := by
  rcases x with s | s <;> exact s.elim0

/-- The reference declares no semaphore. -/
theorem no_sem5 (x : SemLoc Cert.Reference5Ideal.sig) : False := by
  rcases x with s | s <;> exact s.elim0

/-- The reference declares no semaphore. -/
theorem no_sem6 (x : SemLoc Cert.Reference6Ideal.sig) : False := by
  rcases x with s | s <;> exact s.elim0

/-- The reference declares no semaphore. -/
theorem no_sem7 (x : SemLoc Cert.Reference7Ideal.sig) : False := by
  rcases x with s | s <;> exact s.elim0

theorem inProj : Cert.algebraic_Kernel2Ideal_Reference2Ideal := by
  intro m g m' g' _ hagree
  refine ⟨_, _, _, _, _, _, _, _, Cert.Kernel2Ideal.Value.run_blocks m g,
    (θ_run _ _ _).mono (fun r h c => ?_) (Cert.Reference2Ideal.Value.run m' g')⟩
  obtain ⟨h0, h1, h2, h3, h4, h5, h6, h7, hk⟩ := h c
  rw [(hagree c).1, (hagree c).2] at h0 h1 h2 h3 h4 h5 h6 h7
  exact ⟨h0.trans (Cert.InProj.final2 m c).symm, h1.trans (Cert.InProj.final3 m c).symm,
    h2.trans (Cert.InProj.final4 m c).symm, h3.trans (Cert.InProj.final5 m c).symm,
    h4.trans (Cert.InProj.final6 m c).symm, h5.trans (Cert.InProj.final7 m c).symm,
    h6.trans (Cert.InProj.final8 m c).symm, h7.trans (Cert.InProj.final9 m c).symm, hk⟩

theorem merge : Cert.algebraic_Kernel3Ideal_Reference3Ideal := by
  intro m g m' g' _ hagree
  refine ⟨_, Cert.Kernel3Ideal.Value.run_blocks m g,
    (θ_run _ _ _).mono (fun r h c => ?_) (Cert.Reference3Ideal.Value.run m' g')⟩
  obtain ⟨h0, hk⟩ := h c
  refine ⟨h0.trans ?_, hk⟩
  obtain ⟨e0, e1, e2, e3, e4, e5, e6, e7, e8, e9, e10⟩ := hagree c
  refine Eq.trans ?_ (Cert.Merge.final m c).symm
  have e : Cert.Reference3Ideal.Value.res_main_v46 m' c
      = Cert.Merge.out (m' (c.tc.loc Cert.Reference3Ideal.main_arg0)) (m' (c.tc.loc Cert.Reference3Ideal.main_arg1))
          (m' (c.tc.loc Cert.Reference3Ideal.main_arg2)) (m' (c.tc.loc Cert.Reference3Ideal.main_arg3))
          (m' (c.tc.loc Cert.Reference3Ideal.main_arg4)) (m' (c.tc.loc Cert.Reference3Ideal.main_arg5))
          (m' (c.tc.loc Cert.Reference3Ideal.main_arg6)) (m' (c.tc.loc Cert.Reference3Ideal.main_arg7))
          (m' (c.tc.loc Cert.Reference3Ideal.main_arg8)) (m' (c.tc.loc Cert.Reference3Ideal.main_arg9))
          (m' (c.tc.loc Cert.Reference3Ideal.main_arg10)) := rfl
  rw [e, e0, e1, e2, e3, e4, e5, e6, e7, e8, e9, e10]

theorem inProjSample : Cert.algebraic_Kernel4Ideal_Reference4Ideal := by
  intro m g m' g' _ hagree
  refine ⟨_, _, _, _, _, _, _, _, Cert.Kernel4Ideal.Value.run_blocks m g,
    (θ_run _ _ _).mono (fun r h c => ?_) (Cert.Reference4Ideal.Value.run m' g')⟩
  obtain ⟨h0, h1, h2, h3, h4, h5, h6, h7, hk⟩ := h c
  rw [(hagree c).1, (hagree c).2] at h0 h1 h2 h3 h4 h5 h6 h7
  exact ⟨h0.trans (Cert.InProjSample.final2 m c).symm, h1.trans (Cert.InProjSample.final3 m c).symm,
    h2.trans (Cert.InProjSample.final4 m c).symm, h3.trans (Cert.InProjSample.final5 m c).symm,
    h4.trans (Cert.InProjSample.final6 m c).symm, h5.trans (Cert.InProjSample.final7 m c).symm,
    h6.trans (Cert.InProjSample.final8 m c).symm, h7.trans (Cert.InProjSample.final9 m c).symm, hk⟩

theorem convSample : Cert.algebraic_Kernel5Ideal_Reference5Ideal := by
  intro m g m' g' _ hagree
  refine ⟨_, _, Cert.ConvSample.run m g,
    (θ_run _ _ _).mono (fun r h c => ?_) (Cert.Reference5Ideal.Value.run m' g')⟩
  obtain ⟨h0, h1, hk⟩ := h c
  have ha : Cert.ConvSample.Agree m c (StableHlo.launchContents m' c) := hagree c
  exact ⟨h0.trans ((Cert.ConvSample.ref_out _).trans (Cert.ConvSample.final6 m c _ ha).symm),
    h1.trans ((Cert.ConvSample.ref_state m c _ ha).symm.trans (Cert.ConvSample.W_v7 m c).symm), hk⟩

theorem conv : Cert.algebraic_Kernel6Ideal_Reference6Ideal := by
  intro m g m' g' _ hagree
  refine ⟨_, _, Cert.Conv.run m g,
    (θ_run _ _ _).mono (fun r h c => ?_) (Cert.Reference6Ideal.Value.run m' g')⟩
  obtain ⟨h0, h1, hk⟩ := h c
  have ha : Cert.Conv.Agree m c (StableHlo.launchContents m' c) := hagree c
  exact ⟨h0.trans ((Cert.Conv.ref_out _).trans (Cert.Conv.final5 m c _ ha).symm),
    h1.trans ((Cert.Conv.ref_state _).trans (Cert.Conv.final6 m c _ ha).symm), hk⟩

theorem experts : Cert.algebraic_Kernel7Ideal_Reference7Ideal := by
  intro m g m' g' hpre hagree
  obtain ⟨ch, hp⟩ := Cert.Scheds.ideal m hpre
  refine ⟨_, Cert.Experts.run ch m g hp,
    (θ_run _ _ _).mono (fun r h c => ?_) (Cert.Experts.refRun m' g')⟩
  obtain ⟨h0, hk⟩ := h c
  obtain ⟨a0, a1, a2, a3, a4, a5⟩ := hagree c
  refine ⟨h0.trans (Eq.trans ?_ (Cert.Experts.final ch m g c).symm), hk⟩
  rw [a0, a1, a2, a3, a4, a5, hp.1 c, hp.2 c]

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts, Cert.Reference7Ideal.Gen.facts,
  Cert.Pre_tables.Gen.facts, Cert.Pre_tables_and_bias.Gen.facts, Cert.Pre_experts.Gen.facts,
  fun m g h => Cert.Kernel.Gen.frame 0 m g (Cert.Pinned.kernel_pinned m h),
  fun m g h => Cert.KernelIdeal.Gen.frame 0 m g (Cert.Pinned.ideal_pinned m h),
  fun m g h => (θ_run _ _ _).mono (fun r h => ⟨fun c => (h c).2, funext fun x => (no_sem1 x.2).elim⟩) (Cert.ReferenceIdeal.Value.run m g),
  fun m g _ => Cert.Kernel2.Gen.frame m g,
  fun m g _ => Cert.Kernel2Ideal.Gen.frame m g,
  fun m g _ => (θ_run _ _ _).mono (fun r h => ⟨fun c => (h c).2.2.2.2.2.2.2.2, funext fun x => (no_sem2 x.2).elim⟩) (Cert.Reference2Ideal.Value.run m g),
  fun m g _ => Cert.Kernel3.Gen.frame m g,
  fun m g _ => Cert.Kernel3Ideal.Gen.frame m g,
  fun m g _ => (θ_run _ _ _).mono (fun r h => ⟨fun c => (h c).2, funext fun x => (no_sem3 x.2).elim⟩) (Cert.Reference3Ideal.Value.run m g),
  fun m g _ => Cert.Kernel4.Gen.frame m g,
  fun m g _ => Cert.Kernel4Ideal.Gen.frame m g,
  fun m g _ => (θ_run _ _ _).mono (fun r h => ⟨fun c => (h c).2.2.2.2.2.2.2.2, funext fun x => (no_sem4 x.2).elim⟩) (Cert.Reference4Ideal.Value.run m g),
  fun m g _ => Cert.Kernel5.Gen.frame m g,
  fun m g _ => Cert.Kernel5Ideal.Gen.frame m g,
  fun m g _ => (θ_run _ _ _).mono (fun r h => ⟨fun c => (h c).2.2, funext fun x => (no_sem5 x.2).elim⟩) (Cert.Reference5Ideal.Value.run m g),
  fun m g _ => Cert.Kernel6.Gen.frame m g,
  fun m g _ => Cert.Kernel6Ideal.Gen.frame m g,
  fun m g _ => (θ_run _ _ _).mono (fun r h => ⟨fun c => (h c).2.2, funext fun x => (no_sem6 x.2).elim⟩) (Cert.Reference6Ideal.Value.run m g),
  fun m g h => (Cert.Scheds.bits m h).elim fun ch hp => Cert.Kernel7.Any.frame ch m g hp,
  fun m g h => (Cert.Scheds.ideal m h).elim fun ch hp => Cert.Kernel7Ideal.Any.frame ch m g hp,
  fun m g _ => (θ_run _ _ _).mono (fun r h => ⟨fun c => (h c).2, funext fun x => (no_sem7 x.2).elim⟩) (Cert.Reference7Ideal.Value.run m g),
  trivial, trivial, inProj, trivial, merge, trivial, inProjSample, trivial, convSample, trivial, conv, trivial, experts⟩

end Cert.Proof

end
